-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x10000 : Shape := ⟨2, ![10000, 10000]⟩
abbrev S10000x128 : Shape := ⟨2, ![10000, 128]⟩
abbrev S_ : Shape := ⟨0, ![]⟩
abbrev S1 : Shape := ⟨1, ![1]⟩
abbrev S2 : Shape := ⟨1, ![2]⟩
abbrev S1x1 : Shape := ⟨2, ![1, 1]⟩
abbrev S128x10000 : Shape := ⟨2, ![128, 10000]⟩
abbrev S128x10240 : Shape := ⟨2, ![128, 10240]⟩
abbrev S10000x256 : Shape := ⟨2, ![10000, 256]⟩
abbrev S256x10000 : Shape := ⟨2, ![256, 10000]⟩
abbrev S256x10240 : Shape := ⟨2, ![256, 10240]⟩
abbrev S20x1024x10000 : Shape := ⟨3, ![20, 1024, 10000]⟩
abbrev S1x256x10000 : Shape := ⟨3, ![1, 256, 10000]⟩
abbrev S20x128x512 : Shape := ⟨3, ![20, 128, 512]⟩
abbrev S1x1024x10000 : Shape := ⟨3, ![1, 1024, 10000]⟩
abbrev S1x128x512 : Shape := ⟨3, ![1, 128, 512]⟩
abbrev S1024x10000 : Shape := ⟨2, ![1024, 10000]⟩
abbrev S256x1024 : Shape := ⟨2, ![256, 1024]⟩
abbrev S256x512 : Shape := ⟨2, ![256, 512]⟩
abbrev S128x512 : Shape := ⟨2, ![128, 512]⟩
abbrev S20x512x128 : Shape := ⟨3, ![20, 512, 128]⟩
abbrev S10240x128 : Shape := ⟨2, ![10240, 128]⟩

abbrev nBuf : Space → Nat
  | .hbm => 299
  | .vmem => 16
  | .smem => 0
  | _ => 0

abbrev hbmTy0_0 (i : Nat) : BufTy := match i % 128 with
  | 0 => ⟨S10000x10000, .f32⟩
  | 1 => ⟨S10000x10000, .f32⟩
  | 2 => ⟨S10000x128, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S10000x128, .i64⟩
  | 24 => ⟨S10000x128, .i64⟩
  | 25 => ⟨S_, .i64⟩
  | 26 => ⟨S10000x128, .i64⟩
  | 27 => ⟨S10000x128, .i64⟩
  | 28 => ⟨S_, .i64⟩
  | 29 => ⟨S10000x128, .i64⟩
  | 30 => ⟨S10000x128, .i64⟩
  | 31 => ⟨S10000x128, .i64⟩
  | 32 => ⟨S_, .i64⟩
  | 33 => ⟨S10000x128, .i64⟩
  | 34 => ⟨S10000x128, .i64⟩
  | 35 => ⟨S10000x128, .i32⟩
  | 36 => ⟨S10000x128, .i32⟩
  | 37 => ⟨S_, .i32⟩
  | 38 => ⟨S_, .i32⟩
  | 39 => ⟨S_, .i32⟩
  | 40 => ⟨S10000x128, .i32⟩
  | 41 => ⟨S10000x128, .i32⟩
  | 42 => ⟨S10000x128, .i32⟩
  | 43 => ⟨S10000x128, .i32⟩
  | 44 => ⟨S10000x128, .i32⟩
  | 45 => ⟨S_, .i32⟩
  | 46 => ⟨S10000x128, .i32⟩
  | 47 => ⟨S10000x128, .i32⟩
  | 48 => ⟨S_, .i32⟩
  | 49 => ⟨S10000x128, .i32⟩
  | 50 => ⟨S10000x128, .i32⟩
  | 51 => ⟨S10000x128, .i32⟩
  | 52 => ⟨S10000x128, .i32⟩
  | 53 => ⟨S10000x128, .i32⟩
  | 54 => ⟨S_, .i32⟩
  | 55 => ⟨S10000x128, .i32⟩
  | 56 => ⟨S10000x128, .i32⟩
  | 57 => ⟨S_, .i32⟩
  | 58 => ⟨S10000x128, .i32⟩
  | 59 => ⟨S10000x128, .i32⟩
  | 60 => ⟨S10000x128, .i32⟩
  | 61 => ⟨S10000x128, .i32⟩
  | 62 => ⟨S10000x128, .i32⟩
  | 63 => ⟨S_, .i32⟩
  | 64 => ⟨S10000x128, .i32⟩
  | 65 => ⟨S10000x128, .i32⟩
  | 66 => ⟨S_, .i32⟩
  | 67 => ⟨S10000x128, .i32⟩
  | 68 => ⟨S10000x128, .i32⟩
  | 69 => ⟨S10000x128, .i32⟩
  | 70 => ⟨S10000x128, .i32⟩
  | 71 => ⟨S10000x128, .i32⟩
  | 72 => ⟨S_, .i32⟩
  | 73 => ⟨S10000x128, .i32⟩
  | 74 => ⟨S10000x128, .i32⟩
  | 75 => ⟨S_, .i32⟩
  | 76 => ⟨S10000x128, .i32⟩
  | 77 => ⟨S10000x128, .i32⟩
  | 78 => ⟨S10000x128, .i32⟩
  | 79 => ⟨S10000x128, .i32⟩
  | 80 => ⟨S10000x128, .i32⟩
  | 81 => ⟨S10000x128, .i32⟩
  | 82 => ⟨S10000x128, .i32⟩
  | 83 => ⟨S10000x128, .i32⟩
  | 84 => ⟨S_, .i32⟩
  | 85 => ⟨S10000x128, .i32⟩
  | 86 => ⟨S10000x128, .i32⟩
  | 87 => ⟨S10000x128, .i32⟩
  | 88 => ⟨S_, .i32⟩
  | 89 => ⟨S10000x128, .i32⟩
  | 90 => ⟨S10000x128, .i32⟩
  | 91 => ⟨S_, .i32⟩
  | 92 => ⟨S10000x128, .i32⟩
  | 93 => ⟨S10000x128, .i32⟩
  | 94 => ⟨S10000x128, .i32⟩
  | 95 => ⟨S10000x128, .i32⟩
  | 96 => ⟨S10000x128, .i32⟩
  | 97 => ⟨S_, .i32⟩
  | 98 => ⟨S10000x128, .i32⟩
  | 99 => ⟨S10000x128, .i32⟩
  | 100 => ⟨S_, .i32⟩
  | 101 => ⟨S10000x128, .i32⟩
  | 102 => ⟨S10000x128, .i32⟩
  | 103 => ⟨S10000x128, .i32⟩
  | 104 => ⟨S10000x128, .i32⟩
  | 105 => ⟨S10000x128, .i32⟩
  | 106 => ⟨S_, .i32⟩
  | 107 => ⟨S10000x128, .i32⟩
  | 108 => ⟨S10000x128, .i32⟩
  | 109 => ⟨S_, .i32⟩
  | 110 => ⟨S10000x128, .i32⟩
  | 111 => ⟨S10000x128, .i32⟩
  | 112 => ⟨S10000x128, .i32⟩
  | 113 => ⟨S10000x128, .i32⟩
  | 114 => ⟨S10000x128, .i32⟩
  | 115 => ⟨S_, .i32⟩
  | 116 => ⟨S10000x128, .i32⟩
  | 117 => ⟨S10000x128, .i32⟩
  | 118 => ⟨S_, .i32⟩
  | 119 => ⟨S10000x128, .i32⟩
  | 120 => ⟨S10000x128, .i32⟩
  | 121 => ⟨S10000x128, .i32⟩
  | 122 => ⟨S10000x128, .i32⟩
  | 123 => ⟨S10000x128, .i32⟩
  | 124 => ⟨S10000x128, .i32⟩
  | 125 => ⟨S10000x128, .i32⟩
  | 126 => ⟨S10000x128, .i32⟩
  | 127 => ⟨S_, .i32⟩
  | _ => ⟨S10000x10000, .f32⟩

abbrev hbmTy0_1 (i : Nat) : BufTy := match i % 128 with
  | 0 => ⟨S10000x128, .i32⟩
  | 1 => ⟨S10000x128, .i32⟩
  | 2 => ⟨S10000x128, .i32⟩
  | 3 => ⟨S_, .i32⟩
  | 4 => ⟨S10000x128, .i32⟩
  | 5 => ⟨S10000x128, .i32⟩
  | 6 => ⟨S_, .i32⟩
  | 7 => ⟨S10000x128, .i32⟩
  | 8 => ⟨S10000x128, .i32⟩
  | 9 => ⟨S10000x128, .i32⟩
  | 10 => ⟨S10000x128, .i32⟩
  | 11 => ⟨S10000x128, .i32⟩
  | 12 => ⟨S_, .i32⟩
  | 13 => ⟨S10000x128, .i32⟩
  | 14 => ⟨S10000x128, .i32⟩
  | 15 => ⟨S_, .i32⟩
  | 16 => ⟨S10000x128, .i32⟩
  | 17 => ⟨S10000x128, .i32⟩
  | 18 => ⟨S10000x128, .i32⟩
  | 19 => ⟨S10000x128, .i32⟩
  | 20 => ⟨S10000x128, .i32⟩
  | 21 => ⟨S_, .i32⟩
  | 22 => ⟨S10000x128, .i32⟩
  | 23 => ⟨S10000x128, .i32⟩
  | 24 => ⟨S_, .i32⟩
  | 25 => ⟨S10000x128, .i32⟩
  | 26 => ⟨S10000x128, .i32⟩
  | 27 => ⟨S10000x128, .i32⟩
  | 28 => ⟨S10000x128, .i32⟩
  | 29 => ⟨S10000x128, .i32⟩
  | 30 => ⟨S_, .i32⟩
  | 31 => ⟨S10000x128, .i32⟩
  | 32 => ⟨S10000x128, .i32⟩
  | 33 => ⟨S_, .i32⟩
  | 34 => ⟨S10000x128, .i32⟩
  | 35 => ⟨S10000x128, .i32⟩
  | 36 => ⟨S10000x128, .i32⟩
  | 37 => ⟨S10000x128, .i32⟩
  | 38 => ⟨S10000x128, .i32⟩
  | 39 => ⟨S10000x128, .i32⟩
  | 40 => ⟨S10000x128, .i32⟩
  | 41 => ⟨S10000x128, .i32⟩
  | 42 => ⟨S_, .i32⟩
  | 43 => ⟨S10000x128, .i32⟩
  | 44 => ⟨S10000x128, .i32⟩
  | 45 => ⟨S10000x128, .i32⟩
  | 46 => ⟨S_, .i32⟩
  | 47 => ⟨S10000x128, .i32⟩
  | 48 => ⟨S10000x128, .i32⟩
  | 49 => ⟨S_, .i32⟩
  | 50 => ⟨S10000x128, .i32⟩
  | 51 => ⟨S10000x128, .i32⟩
  | 52 => ⟨S10000x128, .i32⟩
  | 53 => ⟨S10000x128, .i32⟩
  | 54 => ⟨S10000x128, .i32⟩
  | 55 => ⟨S_, .i32⟩
  | 56 => ⟨S10000x128, .i32⟩
  | 57 => ⟨S10000x128, .i32⟩
  | 58 => ⟨S_, .i32⟩
  | 59 => ⟨S10000x128, .i32⟩
  | 60 => ⟨S10000x128, .i32⟩
  | 61 => ⟨S10000x128, .i32⟩
  | 62 => ⟨S10000x128, .i32⟩
  | 63 => ⟨S10000x128, .i32⟩
  | 64 => ⟨S_, .i32⟩
  | 65 => ⟨S10000x128, .i32⟩
  | 66 => ⟨S10000x128, .i32⟩
  | 67 => ⟨S_, .i32⟩
  | 68 => ⟨S10000x128, .i32⟩
  | 69 => ⟨S10000x128, .i32⟩
  | 70 => ⟨S10000x128, .i32⟩
  | 71 => ⟨S10000x128, .i32⟩
  | 72 => ⟨S10000x128, .i32⟩
  | 73 => ⟨S_, .i32⟩
  | 74 => ⟨S10000x128, .i32⟩
  | 75 => ⟨S10000x128, .i32⟩
  | 76 => ⟨S_, .i32⟩
  | 77 => ⟨S10000x128, .i32⟩
  | 78 => ⟨S10000x128, .i32⟩
  | 79 => ⟨S10000x128, .i32⟩
  | 80 => ⟨S10000x128, .i32⟩
  | 81 => ⟨S10000x128, .i32⟩
  | 82 => ⟨S10000x128, .i32⟩
  | 83 => ⟨S10000x128, .i32⟩
  | 84 => ⟨S10000x128, .i32⟩
  | 85 => ⟨S_, .i32⟩
  | 86 => ⟨S10000x128, .i32⟩
  | 87 => ⟨S10000x128, .i32⟩
  | 88 => ⟨S10000x128, .i32⟩
  | 89 => ⟨S_, .i32⟩
  | 90 => ⟨S10000x128, .i32⟩
  | 91 => ⟨S10000x128, .i32⟩
  | 92 => ⟨S_, .i32⟩
  | 93 => ⟨S10000x128, .i32⟩
  | 94 => ⟨S10000x128, .i32⟩
  | 95 => ⟨S10000x128, .i32⟩
  | 96 => ⟨S10000x128, .i32⟩
  | 97 => ⟨S10000x128, .i32⟩
  | 98 => ⟨S_, .i32⟩
  | 99 => ⟨S10000x128, .i32⟩
  | 100 => ⟨S10000x128, .i32⟩
  | 101 => ⟨S_, .i32⟩
  | 102 => ⟨S10000x128, .i32⟩
  | 103 => ⟨S10000x128, .i32⟩
  | 104 => ⟨S10000x128, .i32⟩
  | 105 => ⟨S10000x128, .i32⟩
  | 106 => ⟨S10000x128, .i32⟩
  | 107 => ⟨S_, .i32⟩
  | 108 => ⟨S10000x128, .i32⟩
  | 109 => ⟨S10000x128, .i32⟩
  | 110 => ⟨S_, .i32⟩
  | 111 => ⟨S10000x128, .i32⟩
  | 112 => ⟨S10000x128, .i32⟩
  | 113 => ⟨S10000x128, .i32⟩
  | 114 => ⟨S10000x128, .i32⟩
  | 115 => ⟨S10000x128, .i32⟩
  | 116 => ⟨S_, .i32⟩
  | 117 => ⟨S10000x128, .i32⟩
  | 118 => ⟨S10000x128, .i32⟩
  | 119 => ⟨S_, .i32⟩
  | 120 => ⟨S10000x128, .i32⟩
  | 121 => ⟨S10000x128, .i32⟩
  | 122 => ⟨S10000x128, .i32⟩
  | 123 => ⟨S10000x128, .i32⟩
  | 124 => ⟨S10000x128, .i32⟩
  | 125 => ⟨S10000x128, .i32⟩
  | 126 => ⟨S10000x128, .i32⟩
  | 127 => ⟨S10000x128, .i32⟩
  | _ => ⟨S10000x10000, .f32⟩

abbrev hbmTy0_2 (i : Nat) : BufTy := match i % 128 with
  | 0 => ⟨S_, .i32⟩
  | 1 => ⟨S10000x128, .i32⟩
  | 2 => ⟨S10000x128, .i32⟩
  | 3 => ⟨S10000x128, .i32⟩
  | 4 => ⟨S_, .i32⟩
  | 5 => ⟨S10000x128, .i32⟩
  | 6 => ⟨S10000x128, .i32⟩
  | 7 => ⟨S_, .i32⟩
  | 8 => ⟨S10000x128, .i32⟩
  | 9 => ⟨S10000x128, .i32⟩
  | 10 => ⟨S10000x128, .f32⟩
  | 11 => ⟨S_, .f32⟩
  | 12 => ⟨S10000x128, .f32⟩
  | 13 => ⟨S10000x128, .f32⟩
  | 14 => ⟨S1x1, .f32⟩
  | 15 => ⟨S10000x128, .f32⟩
  | 16 => ⟨S10000x128, .f32⟩
  | 17 => ⟨S10000x128, .f32⟩
  | 18 => ⟨S10000x128, .f32⟩
  | 19 => ⟨S10000x128, .f32⟩
  | 20 => ⟨S10000x128, .f32⟩
  | 21 => ⟨S_, .f32⟩
  | 22 => ⟨S10000x128, .f32⟩
  | 23 => ⟨S10000x128, .f32⟩
  | 24 => ⟨S128x10000, .f32⟩
  | 25 => ⟨S_, .i32⟩
  | 26 => ⟨S_, .f32⟩
  | 27 => ⟨S128x10240, .f32⟩
  | 28 => ⟨S10000x256, .f32⟩
  | 29 => ⟨S256x10000, .f32⟩
  | 30 => ⟨S256x10000, .bf16⟩
  | 31 => ⟨S_, .i32⟩
  | 32 => ⟨S_, .bf16⟩
  | 33 => ⟨S256x10240, .bf16⟩
  | 34 => ⟨S20x1024x10000, .fp8e4m3⟩
  | 35 => ⟨S20x128x512, .f32⟩
  | 36 => ⟨S20x128x512, .f32⟩
  | 37 => ⟨S20x512x128, .f32⟩
  | 38 => ⟨S10240x128, .f32⟩
  | 39 => ⟨S10000x128, .f32⟩
  | 40 => ⟨S20x512x128, .f32⟩
  | 41 => ⟨S10240x128, .f32⟩
  | 42 => ⟨S10000x128, .f32⟩
  | _ => ⟨S10000x10000, .f32⟩

abbrev hbmTy (i : Nat) : BufTy := match i / 128 with
  | 0 => hbmTy0_0 i
  | 1 => hbmTy0_1 i
  | 2 => hbmTy0_2 i
  | _ => ⟨S10000x10000, .f32⟩

abbrev bufTy : (tb : Table) → Fin (tcTables nBuf tb) → BufTy
  | .hbm, ⟨i, _⟩ => hbmTy i
  | .local _ .vmem, ⟨0, _⟩ => ⟨S256x10000, .f32⟩
  | .local _ .vmem, ⟨1, _⟩ => ⟨S256x10000, .f32⟩
  | .local _ .vmem, ⟨2, _⟩ => ⟨S256x10000, .f32⟩
  | .local _ .vmem, ⟨3, _⟩ => ⟨S256x10000, .f32⟩
  | .local _ .vmem, ⟨4, _⟩ => ⟨S1x256x10000, .fp8e4m3⟩
  | .local _ .vmem, ⟨5, _⟩ => ⟨S1x256x10000, .fp8e4m3⟩
  | .local _ .vmem, ⟨6, _⟩ => ⟨S1x1024x10000, .fp8e4m3⟩
  | .local _ .vmem, ⟨7, _⟩ => ⟨S1x1024x10000, .fp8e4m3⟩
  | .local _ .vmem, ⟨8, _⟩ => ⟨S256x10240, .bf16⟩
  | .local _ .vmem, ⟨9, _⟩ => ⟨S128x10240, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S256x10240, .bf16⟩
  | .local _ .vmem, ⟨15, _⟩ => ⟨S256x10240, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v7 : Ref sig .tc := ⟨.hbm, 276, rfl⟩
abbrev main_cst_3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_c_4 : Ref sig .tc := ⟨.hbm, 281, rfl⟩
abbrev main_call1_v0 : Ref sig .tc := ⟨.hbm, 282, rfl⟩
abbrev main_v11 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_c_5 : Ref sig .tc := ⟨.hbm, 287, rfl⟩
abbrev main_call2_v0 : Ref sig .tc := ⟨.hbm, 288, rfl⟩
abbrev main_v15 : Ref sig .tc := ⟨.hbm, 289, rfl⟩
abbrev main_v16 : Ref sig .tc := ⟨.hbm, 290, rfl⟩
abbrev main_v17_0 : Ref sig .tc := ⟨.hbm, 291, rfl⟩
abbrev main_v17_1 : Ref sig .tc := ⟨.hbm, 292, rfl⟩
abbrev main_v18 : Ref sig .tc := ⟨.hbm, 293, rfl⟩
abbrev main_v19 : Ref sig .tc := ⟨.hbm, 294, rfl⟩
abbrev main_v20 : Ref sig .tc := ⟨.hbm, 295, rfl⟩
abbrev main_v21 : Ref sig .tc := ⟨.hbm, 296, rfl⟩
abbrev main_v22 : Ref sig .tc := ⟨.hbm, 297, rfl⟩
abbrev main_v23 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![20, 4], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c3_i32 : BitVec 32 := 3#32
  let v1 : BitVec 1 := Scalar.cmpi .eq arg1 c3_i32
  let c1_i32 : BitVec 32 := 1#32
  let c0_i32 : BitVec 32 := 0#32
  let v2 : BitVec 32 := Scalar.select v1 c1_i32 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x10000 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![10, 20], ![false, false]⟩

def k1_cond2 (i : grid1.Coords) : BitVec 1 :=
  let arg0 : BitVec 32 := BitVec.ofNat 32 (i 0).val
  let c2_i32 : BitVec 32 := 2#32
  let v5 : BitVec 32 := Scalar.remsi arg0 c2_i32
  let c0_i32_2 : BitVec 32 := 0#32
  let v6 : BitVec 1 := Scalar.cmpi .eq v5 c0_i32_2
  let v7 : BitVec 32 := Scalar.extui v6
  let c0_i32_3 : BitVec 32 := 0#32
  let v8 : BitVec 1 := Scalar.cmpi .ne v7 c0_i32_3
  v8

def k1_off1 (i : grid1.Coords) : Fin 2 → Nat :=
  let c0_10 : Index := 0#32
  let arg1 : BitVec 32 := BitVec.ofNat 32 (i 1).val
  let c512_i32 : BitVec 32 := 512#32
  let v19 : BitVec 32 := Scalar.muli arg1 c512_i32
  let v20 : Index := Scalar.indexCast v19
  ![0, v20.toNat]
def k1_off2 (i : grid1.Coords) : Fin 2 → Nat :=
  let c0_20 : Index := 0#32
  let arg1 : BitVec 32 := BitVec.ofNat 32 (i 1).val
  let c512_i32_19 : BitVec 32 := 512#32
  let v40 : BitVec 32 := Scalar.muli arg1 c512_i32_19
  let v41 : Index := Scalar.indexCast v40
  ![0, v41.toNat]
def k1_cond3 (i : grid1.Coords) : BitVec 1 :=
  let arg0 : BitVec 32 := BitVec.ofNat 32 (i 0).val
  let c2_i32_4 : BitVec 32 := 2#32
  let v9 : BitVec 32 := Scalar.remsi arg0 c2_i32_4
  let c1_i32 : BitVec 32 := 1#32
  let v10 : BitVec 1 := Scalar.cmpi .eq v9 c1_i32
  let v11 : BitVec 32 := Scalar.extui v10
  let c0_i32_5 : BitVec 32 := 0#32
  let v12 : BitVec 1 := Scalar.cmpi .ne v11 c0_i32_5
  v12

def k1_off3 (i : grid1.Coords) : Fin 2 → Nat :=
  let c0_10 : Index := 0#32
  let arg1 : BitVec 32 := BitVec.ofNat 32 (i 1).val
  let c512_i32 : BitVec 32 := 512#32
  let v19 : BitVec 32 := Scalar.muli arg1 c512_i32
  let v20 : Index := Scalar.indexCast v19
  ![0, v20.toNat]
def k1_off4 (i : grid1.Coords) : Fin 2 → Nat :=
  let c0_20 : Index := 0#32
  let arg1 : BitVec 32 := BitVec.ofNat 32 (i 1).val
  let c512_i32_19 : BitVec 32 := 512#32
  let v40 : BitVec 32 := Scalar.muli arg1 c512_i32_19
  let v41 : Index := Scalar.indexCast v40
  ![0, v41.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

abbrev stage1_0 : Fin 2 → Memref sig .tc .vmem S1x1024x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S256x10240 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x10240 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S10000x10000 : Shape := ⟨2, ![10000, 10000]⟩
abbrev S10000x128 : Shape := ⟨2, ![10000, 128]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 350
  | .vmem => 0
  | .smem => 0
  | _ => 0

abbrev hbmTy0_0 (i : Nat) : BufTy := match i % 128 with
  | 0 => ⟨S10000x10000, .f32⟩
  | 1 => ⟨S10000x10000, .f32⟩
  | 2 => ⟨S10000x128, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S10000x128, .i64⟩
  | 24 => ⟨S10000x128, .i64⟩
  | 25 => ⟨S_, .i64⟩
  | 26 => ⟨S10000x128, .i64⟩
  | 27 => ⟨S10000x128, .i64⟩
  | 28 => ⟨S_, .i64⟩
  | 29 => ⟨S10000x128, .i64⟩
  | 30 => ⟨S10000x128, .i64⟩
  | 31 => ⟨S10000x128, .i64⟩
  | 32 => ⟨S_, .i64⟩
  | 33 => ⟨S10000x128, .i64⟩
  | 34 => ⟨S10000x128, .i64⟩
  | 35 => ⟨S10000x128, .i32⟩
  | 36 => ⟨S10000x128, .i32⟩
  | 37 => ⟨S_, .i32⟩
  | 38 => ⟨S_, .i32⟩
  | 39 => ⟨S_, .i32⟩
  | 40 => ⟨S10000x128, .i32⟩
  | 41 => ⟨S10000x128, .i32⟩
  | 42 => ⟨S10000x128, .i32⟩
  | 43 => ⟨S10000x128, .i32⟩
  | 44 => ⟨S10000x128, .i32⟩
  | 45 => ⟨S_, .i32⟩
  | 46 => ⟨S10000x128, .i32⟩
  | 47 => ⟨S10000x128, .i32⟩
  | 48 => ⟨S_, .i32⟩
  | 49 => ⟨S10000x128, .i32⟩
  | 50 => ⟨S10000x128, .i32⟩
  | 51 => ⟨S10000x128, .i32⟩
  | 52 => ⟨S10000x128, .i32⟩
  | 53 => ⟨S10000x128, .i32⟩
  | 54 => ⟨S_, .i32⟩
  | 55 => ⟨S10000x128, .i32⟩
  | 56 => ⟨S10000x128, .i32⟩
  | 57 => ⟨S_, .i32⟩
  | 58 => ⟨S10000x128, .i32⟩
  | 59 => ⟨S10000x128, .i32⟩
  | 60 => ⟨S10000x128, .i32⟩
  | 61 => ⟨S10000x128, .i32⟩
  | 62 => ⟨S10000x128, .i32⟩
  | 63 => ⟨S_, .i32⟩
  | 64 => ⟨S10000x128, .i32⟩
  | 65 => ⟨S10000x128, .i32⟩
  | 66 => ⟨S_, .i32⟩
  | 67 => ⟨S10000x128, .i32⟩
  | 68 => ⟨S10000x128, .i32⟩
  | 69 => ⟨S10000x128, .i32⟩
  | 70 => ⟨S10000x128, .i32⟩
  | 71 => ⟨S10000x128, .i32⟩
  | 72 => ⟨S_, .i32⟩
  | 73 => ⟨S10000x128, .i32⟩
  | 74 => ⟨S10000x128, .i32⟩
  | 75 => ⟨S_, .i32⟩
  | 76 => ⟨S10000x128, .i32⟩
  | 77 => ⟨S10000x128, .i32⟩
  | 78 => ⟨S10000x128, .i32⟩
  | 79 => ⟨S10000x128, .i32⟩
  | 80 => ⟨S10000x128, .i32⟩
  | 81 => ⟨S10000x128, .i32⟩
  | 82 => ⟨S10000x128, .i32⟩
  | 83 => ⟨S10000x128, .i32⟩
  | 84 => ⟨S_, .i32⟩
  | 85 => ⟨S10000x128, .i32⟩
  | 86 => ⟨S10000x128, .i32⟩
  | 87 => ⟨S10000x128, .i32⟩
  | 88 => ⟨S_, .i32⟩
  | 89 => ⟨S10000x128, .i32⟩
  | 90 => ⟨S10000x128, .i32⟩
  | 91 => ⟨S_, .i32⟩
  | 92 => ⟨S10000x128, .i32⟩
  | 93 => ⟨S10000x128, .i32⟩
  | 94 => ⟨S10000x128, .i32⟩
  | 95 => ⟨S10000x128, .i32⟩
  | 96 => ⟨S10000x128, .i32⟩
  | 97 => ⟨S_, .i32⟩
  | 98 => ⟨S10000x128, .i32⟩
  | 99 => ⟨S10000x128, .i32⟩
  | 100 => ⟨S_, .i32⟩
  | 101 => ⟨S10000x128, .i32⟩
  | 102 => ⟨S10000x128, .i32⟩
  | 103 => ⟨S10000x128, .i32⟩
  | 104 => ⟨S10000x128, .i32⟩
  | 105 => ⟨S10000x128, .i32⟩
  | 106 => ⟨S_, .i32⟩
  | 107 => ⟨S10000x128, .i32⟩
  | 108 => ⟨S10000x128, .i32⟩
  | 109 => ⟨S_, .i32⟩
  | 110 => ⟨S10000x128, .i32⟩
  | 111 => ⟨S10000x128, .i32⟩
  | 112 => ⟨S10000x128, .i32⟩
  | 113 => ⟨S10000x128, .i32⟩
  | 114 => ⟨S10000x128, .i32⟩
  | 115 => ⟨S_, .i32⟩
  | 116 => ⟨S10000x128, .i32⟩
  | 117 => ⟨S10000x128, .i32⟩
  | 118 => ⟨S_, .i32⟩
  | 119 => ⟨S10000x128, .i32⟩
  | 120 => ⟨S10000x128, .i32⟩
  | 121 => ⟨S10000x128, .i32⟩
  | 122 => ⟨S10000x128, .i32⟩
  | 123 => ⟨S10000x128, .i32⟩
  | 124 => ⟨S10000x128, .i32⟩
  | 125 => ⟨S10000x128, .i32⟩
  | 126 => ⟨S10000x128, .i32⟩
  | 127 => ⟨S_, .i32⟩
  | _ => ⟨S10000x10000, .f32⟩

abbrev hbmTy0_1 (i : Nat) : BufTy := match i % 128 with
  | 0 => ⟨S10000x128, .i32⟩
  | 1 => ⟨S10000x128, .i32⟩
  | 2 => ⟨S10000x128, .i32⟩
  | 3 => ⟨S_, .i32⟩
  | 4 => ⟨S10000x128, .i32⟩
  | 5 => ⟨S10000x128, .i32⟩
  | 6 => ⟨S_, .i32⟩
  | 7 => ⟨S10000x128, .i32⟩
  | 8 => ⟨S10000x128, .i32⟩
  | 9 => ⟨S10000x128, .i32⟩
  | 10 => ⟨S10000x128, .i32⟩
  | 11 => ⟨S10000x128, .i32⟩
  | 12 => ⟨S_, .i32⟩
  | 13 => ⟨S10000x128, .i32⟩
  | 14 => ⟨S10000x128, .i32⟩
  | 15 => ⟨S_, .i32⟩
  | 16 => ⟨S10000x128, .i32⟩
  | 17 => ⟨S10000x128, .i32⟩
  | 18 => ⟨S10000x128, .i32⟩
  | 19 => ⟨S10000x128, .i32⟩
  | 20 => ⟨S10000x128, .i32⟩
  | 21 => ⟨S_, .i32⟩
  | 22 => ⟨S10000x128, .i32⟩
  | 23 => ⟨S10000x128, .i32⟩
  | 24 => ⟨S_, .i32⟩
  | 25 => ⟨S10000x128, .i32⟩
  | 26 => ⟨S10000x128, .i32⟩
  | 27 => ⟨S10000x128, .i32⟩
  | 28 => ⟨S10000x128, .i32⟩
  | 29 => ⟨S10000x128, .i32⟩
  | 30 => ⟨S_, .i32⟩
  | 31 => ⟨S10000x128, .i32⟩
  | 32 => ⟨S10000x128, .i32⟩
  | 33 => ⟨S_, .i32⟩
  | 34 => ⟨S10000x128, .i32⟩
  | 35 => ⟨S10000x128, .i32⟩
  | 36 => ⟨S10000x128, .i32⟩
  | 37 => ⟨S10000x128, .i32⟩
  | 38 => ⟨S10000x128, .i32⟩
  | 39 => ⟨S10000x128, .i32⟩
  | 40 => ⟨S10000x128, .i32⟩
  | 41 => ⟨S10000x128, .i32⟩
  | 42 => ⟨S_, .i32⟩
  | 43 => ⟨S10000x128, .i32⟩
  | 44 => ⟨S10000x128, .i32⟩
  | 45 => ⟨S10000x128, .i32⟩
  | 46 => ⟨S_, .i32⟩
  | 47 => ⟨S10000x128, .i32⟩
  | 48 => ⟨S10000x128, .i32⟩
  | 49 => ⟨S_, .i32⟩
  | 50 => ⟨S10000x128, .i32⟩
  | 51 => ⟨S10000x128, .i32⟩
  | 52 => ⟨S10000x128, .i32⟩
  | 53 => ⟨S10000x128, .i32⟩
  | 54 => ⟨S10000x128, .i32⟩
  | 55 => ⟨S_, .i32⟩
  | 56 => ⟨S10000x128, .i32⟩
  | 57 => ⟨S10000x128, .i32⟩
  | 58 => ⟨S_, .i32⟩
  | 59 => ⟨S10000x128, .i32⟩
  | 60 => ⟨S10000x128, .i32⟩
  | 61 => ⟨S10000x128, .i32⟩
  | 62 => ⟨S10000x128, .i32⟩
  | 63 => ⟨S10000x128, .i32⟩
  | 64 => ⟨S_, .i32⟩
  | 65 => ⟨S10000x128, .i32⟩
  | 66 => ⟨S10000x128, .i32⟩
  | 67 => ⟨S_, .i32⟩
  | 68 => ⟨S10000x128, .i32⟩
  | 69 => ⟨S10000x128, .i32⟩
  | 70 => ⟨S10000x128, .i32⟩
  | 71 => ⟨S10000x128, .i32⟩
  | 72 => ⟨S10000x128, .i32⟩
  | 73 => ⟨S_, .i32⟩
  | 74 => ⟨S10000x128, .i32⟩
  | 75 => ⟨S10000x128, .i32⟩
  | 76 => ⟨S_, .i32⟩
  | 77 => ⟨S10000x128, .i32⟩
  | 78 => ⟨S10000x128, .i32⟩
  | 79 => ⟨S10000x128, .i32⟩
  | 80 => ⟨S10000x128, .i32⟩
  | 81 => ⟨S10000x128, .i32⟩
  | 82 => ⟨S10000x128, .i32⟩
  | 83 => ⟨S10000x128, .i32⟩
  | 84 => ⟨S10000x128, .i32⟩
  | 85 => ⟨S_, .i32⟩
  | 86 => ⟨S10000x128, .i32⟩
  | 87 => ⟨S10000x128, .i32⟩
  | 88 => ⟨S10000x128, .i32⟩
  | 89 => ⟨S_, .i32⟩
  | 90 => ⟨S10000x128, .i32⟩
  | 91 => ⟨S10000x128, .i32⟩
  | 92 => ⟨S_, .i32⟩
  | 93 => ⟨S10000x128, .i32⟩
  | 94 => ⟨S10000x128, .i32⟩
  | 95 => ⟨S10000x128, .i32⟩
  | 96 => ⟨S10000x128, .i32⟩
  | 97 => ⟨S10000x128, .i32⟩
  | 98 => ⟨S_, .i32⟩
  | 99 => ⟨S10000x128, .i32⟩
  | 100 => ⟨S10000x128, .i32⟩
  | 101 => ⟨S_, .i32⟩
  | 102 => ⟨S10000x128, .i32⟩
  | 103 => ⟨S10000x128, .i32⟩
  | 104 => ⟨S10000x128, .i32⟩
  | 105 => ⟨S10000x128, .i32⟩
  | 106 => ⟨S10000x128, .i32⟩
  | 107 => ⟨S_, .i32⟩
  | 108 => ⟨S10000x128, .i32⟩
  | 109 => ⟨S10000x128, .i32⟩
  | 110 => ⟨S_, .i32⟩
  | 111 => ⟨S10000x128, .i32⟩
  | 112 => ⟨S10000x128, .i32⟩
  | 113 => ⟨S10000x128, .i32⟩
  | 114 => ⟨S10000x128, .i32⟩
  | 115 => ⟨S10000x128, .i32⟩
  | 116 => ⟨S_, .i32⟩
  | 117 => ⟨S10000x128, .i32⟩
  | 118 => ⟨S10000x128, .i32⟩
  | 119 => ⟨S_, .i32⟩
  | 120 => ⟨S10000x128, .i32⟩
  | 121 => ⟨S10000x128, .i32⟩
  | 122 => ⟨S10000x128, .i32⟩
  | 123 => ⟨S10000x128, .i32⟩
  | 124 => ⟨S10000x128, .i32⟩
  | 125 => ⟨S10000x128, .i32⟩
  | 126 => ⟨S10000x128, .i32⟩
  | 127 => ⟨S10000x128, .i32⟩
  | _ => ⟨S10000x10000, .f32⟩

abbrev hbmTy0_2 (i : Nat) : BufTy := match i % 128 with
  | 0 => ⟨S_, .i32⟩
  | 1 => ⟨S10000x128, .i32⟩
  | 2 => ⟨S10000x128, .i32⟩
  | 3 => ⟨S10000x128, .i32⟩
  | 4 => ⟨S_, .i32⟩
  | 5 => ⟨S10000x128, .i32⟩
  | 6 => ⟨S10000x128, .i32⟩
  | 7 => ⟨S_, .i32⟩
  | 8 => ⟨S10000x128, .i32⟩
  | 9 => ⟨S10000x128, .i32⟩
  | 10 => ⟨S10000x128, .f32⟩
  | 11 => ⟨S_, .f32⟩
  | 12 => ⟨S10000x128, .f32⟩
  | 13 => ⟨S10000x128, .f32⟩
  | 14 => ⟨S1x1, .f32⟩
  | 15 => ⟨S10000x128, .f32⟩
  | 16 => ⟨S10000x128, .f32⟩
  | 17 => ⟨S10000x128, .f32⟩
  | 18 => ⟨S10000x128, .f32⟩
  | 19 => ⟨S10000x128, .f32⟩
  | 20 => ⟨S10000x128, .f32⟩
  | 21 => ⟨S_, .f32⟩
  | 22 => ⟨S10000x128, .f32⟩
  | 23 => ⟨S10000x128, .f32⟩
  | 24 => ⟨S10000x128, .f32⟩
  | 25 => ⟨S10000x128, .f32⟩
  | 26 => ⟨S10000x128, .f32⟩
  | 27 => ⟨S10000x128, .f32⟩
  | 28 => ⟨S10000x128, .f32⟩
  | 29 => ⟨S10000x128, .f32⟩
  | 30 => ⟨S10000x128, .f32⟩
  | 31 => ⟨S10000x128, .f32⟩
  | 32 => ⟨S10000x128, .f32⟩
  | 33 => ⟨S10000x128, .f32⟩
  | 34 => ⟨S10000x128, .f32⟩
  | 35 => ⟨S10000x128, .f32⟩
  | 36 => ⟨S10000x128, .f32⟩
  | 37 => ⟨S10000x128, .f32⟩
  | 38 => ⟨S10000x128, .f32⟩
  | 39 => ⟨S10000x128, .f32⟩
  | 40 => ⟨S10000x128, .f32⟩
  | 41 => ⟨S10000x128, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S10000x128, .f32⟩
  | 49 => ⟨S10000x128, .f32⟩
  | 50 => ⟨S10000x128, .f32⟩
  | 51 => ⟨S10000x128, .f32⟩
  | 52 => ⟨S10000x128, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S10000x128, .f32⟩
  | 59 => ⟨S10000x128, .f32⟩
  | 60 => ⟨S10000x128, .f32⟩
  | 61 => ⟨S10000x128, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S10000x128, .f32⟩
  | 69 => ⟨S10000x128, .f32⟩
  | 70 => ⟨S10000x128, .f32⟩
  | 71 => ⟨S10000x128, .f32⟩
  | 72 => ⟨S10000x128, .f32⟩
  | 73 => ⟨S10000x128, .f32⟩
  | 74 => ⟨S10000x128, .f32⟩
  | 75 => ⟨S10000x128, .f32⟩
  | 76 => ⟨S10000x128, .f32⟩
  | 77 => ⟨S10000x128, .f32⟩
  | 78 => ⟨S10000x128, .f32⟩
  | 79 => ⟨S10000x128, .f32⟩
  | 80 => ⟨S10000x128, .f32⟩
  | 81 => ⟨S10000x128, .f32⟩
  | 82 => ⟨S10000x128, .f32⟩
  | 83 => ⟨S10000x128, .f32⟩
  | 84 => ⟨S10000x128, .f32⟩
  | 85 => ⟨S10000x128, .f32⟩
  | 86 => ⟨S10000x128, .f32⟩
  | 87 => ⟨S10000x128, .f32⟩
  | 88 => ⟨S10000x128, .f32⟩
  | 89 => ⟨S10000x128, .f32⟩
  | 90 => ⟨S10000x128, .f32⟩
  | 91 => ⟨S10000x128, .f32⟩
  | 92 => ⟨S10000x128, .f32⟩
  | 93 => ⟨S10000x128, .f32⟩
  | _ => ⟨S10000x10000, .f32⟩

abbrev hbmTy (i : Nat) : BufTy := match i / 128 with
  | 0 => hbmTy0_0 i
  | 1 => hbmTy0_1 i
  | 2 => hbmTy0_2 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v7 : Ref sig .tc := ⟨.hbm, 276, rfl⟩
abbrev main_cst_3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_v20 : Ref sig .tc := ⟨.hbm, 290, rfl⟩
abbrev main_v21 : Ref sig .tc := ⟨.hbm, 291, rfl⟩
abbrev main_v22 : Ref sig .tc := ⟨.hbm, 292, rfl⟩
abbrev main_v23 : Ref sig .tc := ⟨.hbm, 293, rfl⟩
abbrev main_v24 : Ref sig .tc := ⟨.hbm, 294, rfl⟩
abbrev main_v25 : Ref sig .tc := ⟨.hbm, 295, rfl⟩
abbrev main_v26 : Ref sig .tc := ⟨.hbm, 296, rfl⟩
abbrev main_v27 : Ref sig .tc := ⟨.hbm, 297, rfl⟩
abbrev main_v28 : Ref sig .tc := ⟨.hbm, 298, rfl⟩
abbrev main_v29 : Ref sig .tc := ⟨.hbm, 299, rfl⟩
abbrev main_v30 : Ref sig .tc := ⟨.hbm, 300, rfl⟩
abbrev main_v31 : Ref sig .tc := ⟨.hbm, 301, rfl⟩
abbrev main_v32 : Ref sig .tc := ⟨.hbm, 302, rfl⟩
abbrev main_v33 : Ref sig .tc := ⟨.hbm, 303, rfl⟩
abbrev main_v34 : Ref sig .tc := ⟨.hbm, 304, rfl⟩
abbrev main_v35 : Ref sig .tc := ⟨.hbm, 305, rfl⟩
abbrev main_v36 : Ref sig .tc := ⟨.hbm, 306, rfl⟩
abbrev main_v37 : Ref sig .tc := ⟨.hbm, 307, rfl⟩
abbrev main_v38 : Ref sig .tc := ⟨.hbm, 308, rfl⟩
abbrev main_v39 : Ref sig .tc := ⟨.hbm, 309, rfl⟩
abbrev main_v40 : Ref sig .tc := ⟨.hbm, 310, rfl⟩
abbrev main_v41 : Ref sig .tc := ⟨.hbm, 311, rfl⟩
abbrev main_v42 : Ref sig .tc := ⟨.hbm, 312, rfl⟩
abbrev main_v43 : Ref sig .tc := ⟨.hbm, 313, rfl⟩
abbrev main_v44 : Ref sig .tc := ⟨.hbm, 314, rfl⟩
abbrev main_v45 : Ref sig .tc := ⟨.hbm, 315, rfl⟩
abbrev main_v46 : Ref sig .tc := ⟨.hbm, 316, rfl⟩
abbrev main_v47 : Ref sig .tc := ⟨.hbm, 317, rfl⟩
abbrev main_v48 : Ref sig .tc := ⟨.hbm, 318, rfl⟩
abbrev main_v49 : Ref sig .tc := ⟨.hbm, 319, rfl⟩
abbrev main_v50 : Ref sig .tc := ⟨.hbm, 320, rfl⟩
abbrev main_v51 : Ref sig .tc := ⟨.hbm, 321, rfl⟩
abbrev main_v52 : Ref sig .tc := ⟨.hbm, 322, rfl⟩
abbrev main_v53 : Ref sig .tc := ⟨.hbm, 323, rfl⟩
abbrev main_v54 : Ref sig .tc := ⟨.hbm, 324, rfl⟩
abbrev main_v55 : Ref sig .tc := ⟨.hbm, 325, rfl⟩
abbrev main_v56 : Ref sig .tc := ⟨.hbm, 326, rfl⟩
abbrev main_v57 : Ref sig .tc := ⟨.hbm, 327, rfl⟩
abbrev main_v58 : Ref sig .tc := ⟨.hbm, 328, rfl⟩
abbrev main_v59 : Ref sig .tc := ⟨.hbm, 329, rfl⟩
abbrev main_v60 : Ref sig .tc := ⟨.hbm, 330, rfl⟩
abbrev main_v61 : Ref sig .tc := ⟨.hbm, 331, rfl⟩
abbrev main_v62 : Ref sig .tc := ⟨.hbm, 332, rfl⟩
abbrev main_v63 : Ref sig .tc := ⟨.hbm, 333, rfl⟩
abbrev main_v64 : Ref sig .tc := ⟨.hbm, 334, rfl⟩
abbrev main_v65 : Ref sig .tc := ⟨.hbm, 335, rfl⟩
abbrev main_v66 : Ref sig .tc := ⟨.hbm, 336, rfl⟩
abbrev main_v67 : Ref sig .tc := ⟨.hbm, 337, rfl⟩
abbrev main_v68 : Ref sig .tc := ⟨.hbm, 338, rfl⟩
abbrev main_v69 : Ref sig .tc := ⟨.hbm, 339, rfl⟩
abbrev main_v70 : Ref sig .tc := ⟨.hbm, 340, rfl⟩
abbrev main_v71 : Ref sig .tc := ⟨.hbm, 341, rfl⟩
abbrev main_v72 : Ref sig .tc := ⟨.hbm, 342, rfl⟩
abbrev main_v73 : Ref sig .tc := ⟨.hbm, 343, rfl⟩
abbrev main_v74 : Ref sig .tc := ⟨.hbm, 344, rfl⟩
abbrev main_v75 : Ref sig .tc := ⟨.hbm, 345, rfl⟩
abbrev main_v76 : Ref sig .tc := ⟨.hbm, 346, rfl⟩
abbrev main_v77 : Ref sig .tc := ⟨.hbm, 347, rfl⟩
abbrev main_v78 : Ref sig .tc := ⟨.hbm, 348, rfl⟩
abbrev main_v79 : Ref sig .tc := ⟨.hbm, 349, rfl⟩

abbrev nD : Nat := 1
abbrev τ : Topo := Topo.v7x

variable {F : FTy → Type} [FloatOps F]
-- ==== Proof.Views.lean ====
/- Reads and writes of whole buffers, and of a band of columns of a matrix. -/
module

public import Idealize.ShloMosaic.Lib.WritesUnit
public import Idealize.ShloMosaic.Lib.Pipeline.Value
public import Idealize.ShloMosaic.Lib.Pipeline.FrameBody

@[expose] public section

namespace Cert.Views

open Idealize.ShloMosaic

variable {sig : RefSig} {κ : Kind} {sp : Space} {s : Shape} {e : EltTy} {Val : EltTy → Type}

/-- A load through the rectangle of a whole buffer reads what the buffer holds. -/
theorem readAt_whole (v : View sig κ sp s e) (f : v.ty.Contents Val) {off : Fin s.rank → ℕ} (h : off = fun _ => 0)
    (inb : ∀ a, off a + s.size a ≤ s.size a) :
    v.readAt Val (Rect.unit off s.size inb).toLoadRect f = v.read Val f :=
  View.ld_unit_zero h inb (v.read Val f)

/-- After one store over a whole buffer the buffer reads what was stored. -/
theorem read_write_whole (v : View sig κ sp s e) (f : v.ty.Contents Val) {off : Fin s.rank → ℕ} (h : off = fun _ => 0)
    (inb : ∀ a, off a + s.size a ≤ s.size a) (w : s.Idx → Val e) :
    v.read Val (v.writes Val f [(⟨Rect.unit off s.size inb, w⟩ : View.Piece Val s e)]) = w :=
  funext fun y => View.read_writes_cons_unit_of_mem v f inb w [] y y h fun a => by simp

/-- A matrix with the columns from `o` on replaced by those of a narrower one. -/
def colUpd {R C W : ℕ} {α : Type} (o : ℕ) (w : (⟨2, ![R, W]⟩ : Shape).Idx → α) (T : (⟨2, ![R, C]⟩ : Shape).Idx → α) :
    (⟨2, ![R, C]⟩ : Shape).Idx → α := fun y =>
  if h : o ≤ (y (1 : Fin 2)).val ∧ (y (1 : Fin 2)).val < o + W then
    w (fun a => match a with
      | ⟨0, _⟩ => (⟨(y (0 : Fin 2)).val, (y (0 : Fin 2)).isLt⟩ : Fin R)
      | ⟨1, _⟩ => (⟨(y (1 : Fin 2)).val - o, by omega⟩ : Fin W))
  else T y

/-- After one store over a band of columns the buffer reads its former contents with those columns replaced. -/
theorem read_write_cols {R C W : ℕ} (v : View sig κ sp (⟨2, ![R, C]⟩ : Shape) e) (f : v.ty.Contents Val) {off : Fin 2 → ℕ} {o : ℕ} (h : off = ![0, o])
    (inb : ∀ a : Fin 2, off a + (![R, W] : Fin 2 → ℕ) a ≤ (![R, C] : Fin 2 → ℕ) a) (w : (⟨2, ![R, W]⟩ : Shape).Idx → Val e) :
    v.read Val (v.writes Val f [(⟨Rect.unit (s := (⟨2, ![R, C]⟩ : Shape)) off ![R, W] inb, w⟩ : View.Piece Val (⟨2, ![R, C]⟩ : Shape) e)])
      = colUpd o w (v.read Val f) := funext fun y => by
  unfold colUpd
  split
  · rename_i hy
    refine View.read_writes_cons_unit_of_mem (s := (⟨2, ![R, C]⟩ : Shape)) (size := ![R, W]) v f inb w [] y _ h fun a => ?_
    match a with
    | ⟨0, _⟩ => simp
    | ⟨1, _⟩ => simp; omega
  · rename_i hy
    refine View.read_writes_cons_unit_of_not_mem (s := (⟨2, ![R, C]⟩ : Shape)) (size := ![R, W]) v f inb w [] y h (1 : Fin 2) ?_
    show (y (1 : Fin 2)).val < o ∨ o + W ≤ (y (1 : Fin 2)).val
    omega

end Cert.Views
-- ==== Proof.QuantBody.lean ====
/- What one grid point of the first kernel does: it reads one of its two input blocks, scales it by 1024, rounds it to the eight-bit format, and stores it
   over the whole of its output block. The first input is read at the points of the grid whose second coordinate is below 2, the second at the others. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Kit
public import Idealize.ShloMosaic.Lib.Pipeline.Frame
public import Idealize.ShloMosaic.Lib.Pipeline.FrameBody
public import Idealize.ShloMosaic.Lib.Pipeline.DatRel
public import Idealize.ShloMosaic.Lib.Tactic
public import proofs.«01_k».proof.Proof.Views

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-- The eight-bit block that a grid point leaves in its output buffer, of the contents of its two input buffers. -/
def qOut (i : grid0.Coords) (X0 X1 : Vec F S256x10000 .f32) : Vec F S1x256x10000 .fp8e4m3 :=
  if k0_cond1 i = 1#1 then k0_pay1 X0 else k0_pay2 X1

theorem cond1_iff : ∀ i : grid0.Coords, k0_cond1 i = 1#1 ↔ (i 1).val < 2 := by decide +kernel
theorem cond2_iff : ∀ i : grid0.Coords, k0_cond2 i = 1#1 ↔ ¬ (i 1).val < 2 := by decide +kernel

variable {Ix : Type} [DecidableEq Ix] {U : Type} [URA U] {Lvl : Type} [Preorder Lvl]

local notation "𝕄" => MT nD τ sig Ix (Elt F) ℕ U Lvl

/-- The body at a grid point, run on three whole buffers. -/
theorem body (c : Dev nD) (E : Set ℕ) (i : grid0.Coords) (M2 : Memref sig .tc .vmem S256x10000 .f32) (h2 : M2.IsWhole)
    (M3 : Memref sig .tc .vmem S256x10000 .f32) (h3 : M3.IsWhole) (M4 : Memref sig .tc .vmem S1x256x10000 .fp8e4m3) (h4 : M4.IsWhole)
    (X0 X1 : Vec F S256x10000 .f32) (Y : Vec F S1x256x10000 .fp8e4m3) (K : PUnit → sProp 𝕄) :
    iprop((owns (c : Thread nD τ) M2 fullShare X0 ∗ owns (c : Thread nD τ) M3 fullShare X1 ∗ owns (c : Thread nD τ) M4 fullShare Y)
        ∗ ((owns (c : Thread nD τ) M2 fullShare X0 ∗ owns (c : Thread nD τ) M3 fullShare X1 ∗ owns (c : Thread nD τ) M4 fullShare (qOut i X0 X1)) -∗ K ⟨⟩))
      ⊢ wp frame (wpE (defs₀ (F := F)) Variants.none (c : Thread nD τ) none) E (cc0__quantize_kernel i M2 h2 M3 h3 M4 h4) K := by
  have hz2 : (![0, 0] : Fin 2 → ℕ) = fun _ => 0 := funext fun a => by fin_cases a <;> rfl
  have hz3 : (![0, 0, 0] : Fin 3 → ℕ) = fun _ => 0 := funext fun a => by fin_cases a <;> rfl
  by_cases hc : (i 1).val < 2
  · have hc1 := (cond1_iff i).mpr hc
    have hc2 : ¬ k0_cond2 i = 1#1 := fun h => (cond2_iff i).mp h hc
    rw [cc0__quantize_kernel_eq_skeleton]; unfold cc0__quantize_kernel_skel qOut
    rw [if_pos hc1]
    simp only [dif_pos hc1, dif_neg hc2]
    unfold owns
    iintro ⟨⟨⟨%f0, %hf0, H0⟩, ⟨%f1, %hf1, H1⟩, ⟨%f2, %hf2, H2⟩⟩, Hk⟩
    sl_exec
    sl_step
    iapply Hk
    isplitl [H0]; · iexists f0; isplitr; · ipureintro; exact hf0
                    iexact H0
    isplitl [H1]; · iexists f1; isplitr; · ipureintro; exact hf1
                    iexact H1
    iexists _; isplitr; swap; · iexact H2
    ipureintro
    exact (Views.read_write_whole M4.view f2 hz3 _ _).trans (congrArg k0_pay1 ((Views.readAt_whole M2.view f0 hz2 _).trans hf0))
  · have hc2 := (cond2_iff i).mpr hc
    have hc1 : ¬ k0_cond1 i = 1#1 := fun h => hc ((cond1_iff i).mp h)
    rw [cc0__quantize_kernel_eq_skeleton]; unfold cc0__quantize_kernel_skel qOut
    rw [if_neg hc1]
    simp only [dif_pos hc2, dif_neg hc1]
    unfold owns
    iintro ⟨⟨⟨%f0, %hf0, H0⟩, ⟨%f1, %hf1, H1⟩, ⟨%f2, %hf2, H2⟩⟩, Hk⟩
    sl_exec
    sl_step
    iapply Hk
    isplitl [H0]; · iexists f0; isplitr; · ipureintro; exact hf0
                    iexact H0
    isplitl [H1]; · iexists f1; isplitr; · ipureintro; exact hf1
                    iexact H1
    iexists _; isplitr; swap; · iexact H2
    ipureintro
    exact (Views.read_write_whole M4.view f2 hz3 _ _).trans (congrArg k0_pay2 ((Views.readAt_whole M3.view f1 hz2 _).trans hf1))

end Cert.KernelIdeal.Quant
end
-- ==== Proof.Setup.lean ====
/- What the two regions' records and the run share: the algebra, the levels, the proof data of a pipeline that a record does not run. -/
module

public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-- One copy of the pipeline library's algebra for each of the two regions. -/
abbrev UU : Type := IProdConst (Fin 2) (UR sig nD τ) × Counters

local notation "𝕄" => MT nD τ sig Unit (Elt F) ℕ UU ℕ

/-- Every semaphore of a TensorCore carries the one index, at level 0; nothing is owed. -/
abbrev L : GSem nD τ sig → Finset Unit := fun g => if g.1.2 = .tc then {()} else ∅
abbrev lv : GSem nD τ sig → Unit → ℕ := fun _ _ => 0
abbrev 𝒱₀ : Variants := Variants.none

theorem L_off : ∀ g : GSem nD τ sig, g.1.2 ≠ .tc → L g = ∅ := fun g h => if_neg h

/-- Proof data of a pipeline that a record does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- What rides beside the buffers: the core's debts, none. -/
abbrev R (c : Dev nD) : sProp 𝕄 := iprop(∃ Wd, owes (c : Thread nD τ) (0 : CellTallies nD τ sig Unit) Wd)

/-- The two bodies, as the pipelines call them. -/
theorem defs₀_row0 (t : Fin cfg0.N) : defs₀ (F := F) .tc cfg0.body (cfg0.bodyArgs t (cfg0.slots t)) = bodyAt0 t := by
  unfold defs₀; rw [Defs.onTc_tc]
theorem defs₀_row1 (t : Fin cfg1.N) : defs₀ (F := F) .tc cfg1.body (cfg1.bodyArgs t (cfg1.slots t)) = bodyAt1 t := by
  unfold defs₀; rw [Defs.onTc_tc]

end Cert.KernelIdeal.Run
end
-- ==== Proof.QuantRegion.lean ====
/- The first region. Each of its 80 points turns a block of 256 rows of one of the two matrices into the eight-bit block that it writes back. The last block of
   rows overhangs the matrices: the rows past the end hold anything. So the region is described by a relation: the rows inside hold the scaled and rounded
   elements of the matrix. -/
module

public import proofs.«01_k».proof.Proof.QuantBody
public import proofs.«01_k».proof.Proof.Setup
public import Idealize.ShloMosaic.Lib.Pipeline.ArrRel
public import Idealize.ShloMosaic.Lib.Pipeline.DatRel
public import Idealize.ShloMosaic.Lib.Pipeline.Value

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal.Run (UU L lv 𝒱₀ junkDat)

variable {F : FTy → Type} [FloatOps F]

local notation "𝕄" => MT nD τ sig Unit (Elt F) ℕ UU ℕ

/-! ## One element -/

/-- An element of the matrix, scaled by 1024 and rounded to eight bits. -/
def qz (x : F .f32) : F .fp8e4m3 := FloatOps.truncf .fp8e4m3 bitsLt_fp8e4m3_f32 (FloatOps.mulf x (FloatOps.ofBits .f32 0x44800000#32))

theorem pay1_apply (X : Vec F S256x10000 .f32) (y : S1x256x10000.Idx) (z : S256x10000.Idx) (h0 : (z 0).val = (y 1).val) (h1 : (z 1).val = (y 2).val) :
    k0_pay1 X y = qz (X z) := by
  unfold k0_pay1
  rw [shapeCast_apply _ _ y z ?_]
  · rfl
  · have hy : (y 0).val < 1 := (y 0).isLt
    rw [Shape.rowMajor_val_two, Shape.rowMajor_val_three]
    show (z 0).val * 10000 + (z 1).val = ((y 0).val * 256 + (y 1).val) * 10000 + (y 2).val
    omega

theorem pay2_apply (X : Vec F S256x10000 .f32) (y : S1x256x10000.Idx) (z : S256x10000.Idx) (h0 : (z 0).val = (y 1).val) (h1 : (z 1).val = (y 2).val) :
    k0_pay2 X y = qz (X z) := pay1_apply X y z h0 h1

variable (V : (c : Dev nD) → Valuation τ sig (Elt F))

/-! ## The proof data -/

/-- What the fetch leaves of the matrix in an input window's buffer; past the matrix's end, anything. -/
abbrev stg (c : Dev nD) (w : Fin cfg0.W) (t : Fin cfg0.N) : (cfg0.win w).block.Idx → Elt F (cfg0.win w).elt :=
  (cfg0.win w).fill (cfg0.grid.coords t) (fun _ => Classical.arbitrary _) (((cfg0.win w).blk t).view.read (Elt F) (V c (Pipeline.arrRef spec0 w)))

/-- The data of the region, from the buffers' contents at its entry. -/
def dat (c : Dev nD) : Dat τ (Elt F) Unit ℕ UU ℕ cfg0 c where
  A w := V c (Pipeline.arrRef spec0 w)
  after w t := stg V c w t
  Φ _ := Pipeline.scopedRest spec0 c
  q _ := fullShare
  owed _ := 0

/-- The marked window: the output. -/
def fgt : Fin cfg0.W → Bool := fun w => (cfg0.win w).isOut

/-- What the body leaves in the output's buffer: at each row inside the matrix, the rounded elements of the row. -/
def Rl (c : Dev nD) : (w : Fin cfg0.W) → (t : Fin cfg0.N) → ((cfg0.win w).block.Idx → Elt F (cfg0.win w).elt) → Prop
  | ⟨2, _⟩, t, X => ∀ (y : S1x256x10000.Idx) (z : S10000x10000.Idx),
      (z 0).val = 256 * (2 * (cfg0.grid.coords t 0).val + (cfg0.grid.coords t 1).val % 2) + (y 1).val → (z 1).val = (y 2).val →
        X y = qz (if (cfg0.grid.coords t 1).val < 2 then V c main_arg0 z else V c main_arg1 z)
  | _, _, _ => True

abbrev pds : (p : Fin 2) → (c : Dev nD) → Dat τ (Elt F) Unit ℕ UU ℕ (Pipeline.pin (pcfgs (F := F)) adm p) c
  | ⟨0, _⟩, c => dat V c
  | ⟨1, _⟩, c => junkDat c

abbrev rds : (p : Fin 2) → (c : Dev nD) → Pipeline.RDat τ (Elt F) Unit ℕ UU ℕ (Pipeline.pin (pcfgs (F := F)) adm p) c
  | ⟨0, _⟩, c => (dat V c).toRRel fgt (Rl V c)
  | ⟨1, _⟩, c => (junkDat c).toR

theorem live (w : Fin cfg0.W) (i : grid0.Coords) (hw : (cfg0.win w).isOut = false) : cfg0.idle w i = false := by
  match w with
  | ⟨0, _⟩ => rfl
  | ⟨1, _⟩ => rfl
  | ⟨2, _⟩ => exact absurd (show true = false from hw) (by decide)

theorem clip_eq (w : Fin cfg0.W) (t t' : Fin cfg0.N) (h : (cfg0.win w).index t = (cfg0.win w).index t') :
    (cfg0.win w).clip (cfg0.grid.coords t) = (cfg0.win w).clip (cfg0.grid.coords t') := by
  match w with
  | ⟨0, _⟩ =>
    funext a
    show Pipeline.Clip.of (cc0_transform_0 (grid0.coords t) a) _ _ = Pipeline.Clip.of (cc0_transform_0 (grid0.coords t') a) _ _
    rw [show cc0_transform_0 (grid0.coords t) = cc0_transform_0 (grid0.coords t') from h]
  | ⟨1, _⟩ =>
    funext a
    show Pipeline.Clip.of (cc0_transform_1 (grid0.coords t) a) _ _ = Pipeline.Clip.of (cc0_transform_1 (grid0.coords t') a) _ _
    rw [show cc0_transform_1 (grid0.coords t) = cc0_transform_1 (grid0.coords t') from h]
  | ⟨2, _⟩ => rfl

/-- What the body finds in an input's buffer: the block, and past the matrix's end anything. -/
theorem before_in (c : Dev nD) (w : Fin cfg0.W) (hw : (cfg0.win w).isOut = false) (t : Fin cfg0.N) (d) :
    (dat V c).before w t d = (cfg0.win w).fill (cfg0.grid.coords t) d (((cfg0.win w).blk t).view.read (Elt F) (V c (Pipeline.arrRef spec0 w))) :=
  Dat.before_in_eq_fetched (dat V c) w hw (fun i => live w i hw) (clip_eq w) (fun t => (cfg0.win w).cut_fill _ _ _) t d

/-! ## The body -/

theorem coord0_0 : ∀ t : Fin cfg0.N, (cfg0.grid.coords t 1).val < 2 →
    cc0_transform_0 (cfg0.grid.coords t) = ![2 * (cfg0.grid.coords t 0).val + (cfg0.grid.coords t 1).val % 2, 0] := by decide +kernel
theorem coord0_1 : ∀ t : Fin cfg0.N, ¬ (cfg0.grid.coords t 1).val < 2 →
    cc0_transform_1 (cfg0.grid.coords t) = ![2 * (cfg0.grid.coords t 0).val + (cfg0.grid.coords t 1).val % 2, 0] := by decide +kernel

/-- A row inside the matrix of a filled input block is the matrix's row. -/
theorem xs0_0 : ∀ t : Fin cfg0.N, (cfg0.grid.coords t 1).val < 2 →
    win0_0.xsize (cfg0.grid.coords t) 0 = min 256 (10000 - 256 * (2 * (cfg0.grid.coords t 0).val + (cfg0.grid.coords t 1).val % 2))
      ∧ win0_0.xsize (cfg0.grid.coords t) 1 = 10000 := by decide +kernel

theorem fill0_apply (c : Dev nD) (t : Fin cfg0.N) (h : (cfg0.grid.coords t 1).val < 2) (d : S256x10000.Idx → Elt F .f32) (y : S256x10000.Idx) (z : S10000x10000.Idx)
    (h0 : (z 0).val = 256 * (2 * (cfg0.grid.coords t 0).val + (cfg0.grid.coords t 1).val % 2) + (y 0).val) (h1 : (z 1).val = (y 1).val) :
    win0_0.fill (cfg0.grid.coords t) d ((win0_0.blk t).view.read (Elt F) (V c main_arg0)) y = V c main_arg0 z := by
  have hz : (z 0).val < 10000 := (z 0).isLt
  have hy0 : (y 0).val < 256 := (y 0).isLt
  have hy1 : (y 1).val < 10000 := (y 1).isLt
  have hc := coord0_0 t h
  have hm : win0_0.moved (cfg0.grid.coords t) y = true := (win0_0.moved_iff _ _).mpr fun a => by
    match a with
    | ⟨0, _⟩ =>
      show (y 0).val < win0_0.xsize (cfg0.grid.coords t) 0
      rw [(xs0_0 t h).1]; omega
    | ⟨1, _⟩ =>
      show (y 1).val < win0_0.xsize (cfg0.grid.coords t) 1
      rw [(xs0_0 t h).2]; exact hy1
  unfold Pipeline.Window.fill
  rw [dif_pos hm, View.read_apply]
  refine congrArg (V c main_arg0) (funext fun a => Fin.ext ?_)
  match a with
  | ⟨0, _⟩ =>
    show cc0_transform_0 (cfg0.grid.coords t) 0 * 256 + 1 * (y 0).val = (z 0).val
    rw [hc]
    show (2 * (cfg0.grid.coords t 0).val + (cfg0.grid.coords t 1).val % 2) * 256 + 1 * (y 0).val = (z 0).val
    omega
  | ⟨1, _⟩ =>
    show cc0_transform_0 (cfg0.grid.coords t) 1 * 10000 + 1 * (y 1).val = (z 1).val
    rw [hc]
    show 0 * 10000 + 1 * (y 1).val = (z 1).val
    omega

theorem xs0_1 : ∀ t : Fin cfg0.N, ¬ (cfg0.grid.coords t 1).val < 2 →
    win0_1.xsize (cfg0.grid.coords t) 0 = min 256 (10000 - 256 * (2 * (cfg0.grid.coords t 0).val + (cfg0.grid.coords t 1).val % 2))
      ∧ win0_1.xsize (cfg0.grid.coords t) 1 = 10000 := by decide +kernel

theorem fill1_apply (c : Dev nD) (t : Fin cfg0.N) (h : ¬ (cfg0.grid.coords t 1).val < 2) (d : S256x10000.Idx → Elt F .f32) (y : S256x10000.Idx) (z : S10000x10000.Idx)
    (h0 : (z 0).val = 256 * (2 * (cfg0.grid.coords t 0).val + (cfg0.grid.coords t 1).val % 2) + (y 0).val) (h1 : (z 1).val = (y 1).val) :
    win0_1.fill (cfg0.grid.coords t) d ((win0_1.blk t).view.read (Elt F) (V c main_arg1)) y = V c main_arg1 z := by
  have hz : (z 0).val < 10000 := (z 0).isLt
  have hy0 : (y 0).val < 256 := (y 0).isLt
  have hy1 : (y 1).val < 10000 := (y 1).isLt
  have hc := coord0_1 t h
  have hm : win0_1.moved (cfg0.grid.coords t) y = true := (win0_1.moved_iff _ _).mpr fun a => by
    match a with
    | ⟨0, _⟩ =>
      show (y 0).val < win0_1.xsize (cfg0.grid.coords t) 0
      rw [(xs0_1 t h).1]; omega
    | ⟨1, _⟩ =>
      show (y 1).val < win0_1.xsize (cfg0.grid.coords t) 1
      rw [(xs0_1 t h).2]; exact hy1
  unfold Pipeline.Window.fill
  rw [dif_pos hm, View.read_apply]
  refine congrArg (V c main_arg1) (funext fun a => Fin.ext ?_)
  match a with
  | ⟨0, _⟩ =>
    show cc0_transform_1 (cfg0.grid.coords t) 0 * 256 + 1 * (y 0).val = (z 0).val
    rw [hc]
    show (2 * (cfg0.grid.coords t 0).val + (cfg0.grid.coords t 1).val % 2) * 256 + 1 * (y 0).val = (z 0).val
    omega
  | ⟨1, _⟩ =>
    show cc0_transform_1 (cfg0.grid.coords t) 1 * 10000 + 1 * (y 1).val = (z 1).val
    rw [hc]
    show 0 * 10000 + 1 * (y 1).val = (z 1).val
    omega

theorem qOut_Rl (c : Dev nD) (t : Fin cfg0.N) (d0 d1) :
    Rl V c 2 t (qOut (cfg0.grid.coords t) ((dat V c).before 0 t d0) ((dat V c).before 1 t d1)) := by
  rw [before_in V c 0 rfl, before_in V c 1 rfl]
  intro y z h0 h1
  unfold qOut
  by_cases h : (cfg0.grid.coords t 1).val < 2
  · rw [if_pos ((cond1_iff _).mpr h), if_pos h]
    rw [pay1_apply _ y (fun a => match a with | ⟨0, _⟩ => y 1 | ⟨1, _⟩ => y 2) rfl rfl]
    exact congrArg qz (fill0_apply V c t h d0 _ z h0 h1)
  · rw [if_neg (fun h' => h ((cond1_iff _).mp h')), if_neg h]
    rw [pay2_apply _ y (fun a => match a with | ⟨0, _⟩ => y 1 | ⟨1, _⟩ => y 2) rfl rfl]
    exact congrArg qz (fill1_apply V c t h d1 _ z h0 h1)

/-- The body leaves an input's buffer as it found it. -/
theorem left (c : Dev nD) (w : Fin cfg0.W) (hw : (cfg0.win w).isOut = false) (t : Fin cfg0.N) (d) :
    owns c ((cfg0.win w).stage (cfg0.slots t w)) fullShare ((dat V c).before w t d)
      ⊢ (iprop(∃ d, owns c ((cfg0.win w).stage (cfg0.slots t w)) fullShare
          ((cfg0.win w).fill (cfg0.grid.coords t) d ((cfg0.win w).cut (cfg0.grid.coords t) ((dat V c).after w t)))) : sProp 𝕄) := by
  iintro H; iexists d
  rw [show (dat V c).after w t = stg V c w t from rfl, (cfg0.win w).cut_fill, before_in V c w hw]
  iexact H

set_option backward.isDefEq.respectTransparency.types false in
/-- The body's obligation at every point. -/
theorem body_obligation (c : Dev nD) : Pipeline.BodyObligationRel (dat V c) (defs₀ (F := F)) 𝒱₀ () Set.univ fgt (Rl V c) := by
  intro t
  rw [Run.defs₀_row0]
  rw [bigSep_W0, bigSep_W0]
  show iprop(Pipeline.scopedRest spec0 c ∗ _ ∗ (∃ d, owns _ _ _ _) ∗ (∃ d, owns _ _ _ _) ∗ (∃ Y, ⌜_⌝ ∗ owns _ _ _ _)) ⊢ wp frame (wpE defs₀ 𝒱₀ c none) Set.univ (bodyAt0 t) fun _ =>
    iprop(Pipeline.scopedRest spec0 c ∗ (dat V c).owesAt () t.succ
      ∗ (∃ d, owns c ((cfg0.win 0).stage (cfg0.slots t 0)) fullShare
          ((cfg0.win 0).fill (cfg0.grid.coords t) d ((cfg0.win 0).cut (cfg0.grid.coords t) ((dat V c).after 0 t))))
      ∗ (∃ d, owns c ((cfg0.win 1).stage (cfg0.slots t 1)) fullShare
          ((cfg0.win 1).fill (cfg0.grid.coords t) d ((cfg0.win 1).cut (cfg0.grid.coords t) ((dat V c).after 1 t))))
      ∗ (∃ X, ⌜Rl V c 2 t X⌝ ∗ owns c (st0_2 t) fullShare X))
  iintro ⟨HΦ, Ho, ⟨%d0, H0⟩, ⟨%d1, H1⟩, ⟨%Y, -, H2⟩⟩
  iapply (body (F := F) c Set.univ (cfg0.grid.coords t) _ _ _ _ _ _ _ _ _ _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iapply (left V c 0 rfl t d0); iexact H0
  isplitl [H1]
  · iapply (left V c 1 rfl t d1); iexact H1
  iapply (show owns c (st0_2 t) fullShare (qOut (cfg0.grid.coords t) ((dat V c).before 0 t d0) ((dat V c).before 1 t d1))
      ⊢ (iprop(∃ X, ⌜Rl V c 2 t X⌝ ∗ owns c (st0_2 t) fullShare X) : sProp 𝕄) from by
    iintro H; iexists _; isplitr
    · ipureintro; exact qOut_Rl V c t d0 d1
    · iexact H)
  iexact H2

end Cert.KernelIdeal.Quant
end
-- ==== Proof.QuantRecord.lean ====
/- The first region as one step of the program: it is entered with the buffers at given contents, and leaves them with the eight-bit array at some contents
   that hold, at every row of a matrix, the row's scaled and rounded elements. What stands in the rows past the matrices' ends is not known. -/
module

public import proofs.«01_k».proof.Proof.QuantRegion

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal.Run (UU L lv 𝒱₀ junkDat R)

variable {F : FTy → Type} [FloatOps F]

local notation "𝕄" => MT nD τ sig Unit (Elt F) ℕ UU ℕ

variable (V : (c : Dev nD) → Valuation τ sig (Elt F))

/-- What is known of the eight-bit array: block `i` holds 512 rows of the first matrix over the same 512 rows of the second, scaled and rounded. -/
def Sel (c : Dev nD) (x : S20x1024x10000.Idx → Elt F .fp8e4m3) : Prop :=
  ∀ (j : S20x1024x10000.Idx) (z : S10000x10000.Idx), (z 0).val = 512 * (j 0).val + (j 1).val % 512 → (z 1).val = (j 2).val →
    x j = qz (if (j 1).val < 512 then V c main_arg0 z else V c main_arg1 z)

theorem coord0_2 : ∀ t : Fin cfg0.N,
    cc0_transform_2 (cfg0.grid.coords t) = ![(cfg0.grid.coords t 0).val, (cfg0.grid.coords t 1).val, 0] := by decide +kernel

theorem lt4 (t : Fin cfg0.N) : (cfg0.grid.coords t 1).val < 4 := (cfg0.grid.coords t 1).isLt

/-- The point that writes a given row. -/
theorem pt0 : ∀ (a : Fin 20) (b : Fin 4), ∃ t : Fin cfg0.N, (cfg0.grid.coords t 0).val = a.val ∧ (cfg0.grid.coords t 1).val = b.val := by decide +kernel

/-- Whatever the region may leave in the eight-bit array is as said. -/
theorem sel_of (c : Dev nD) (x : S20x1024x10000.Idx → Elt F .fp8e4m3) (h : ((dat V c).toRRel fgt (Rl V c)).ArrAt 2 cfg0.N x) : Sel V c x := by
  obtain ⟨X, hX, hA⟩ := h.exists_exact
  have e := hA (Function.update (fun _ _ _ => Classical.arbitrary _) 2 X) fun u _ _ => by rw [Function.update_self]
  rw [e]
  intro j
  refine Dat.arrAt_forall_of_cover (((dat V c).toRRel fgt (Rl V c)).withAfter (Function.update (fun _ _ _ => Classical.arbitrary _) 2 X)) 2
    (fun (j : S20x1024x10000.Idx) (v : Elt F .fp8e4m3) => ∀ z : S10000x10000.Idx, (z 0).val = 512 * (j 0).val + (j 1).val % 512 → (z 1).val = (j 2).val →
      v = qz (if (j 1).val < 512 then V c main_arg0 z else V c main_arg1 z)) ?_ ?_ j
  · intro t hf y z h0 h1
    have hR : Rl V c 2 t (X t) := (dat V c).toRRel_leaves (fgt := fgt) (Rl := Rl V c) (w := 2) rfl (hX t t.isLt hf)
    have hq := lt4 t
    have hc := coord0_2 t
    have hy1 : (y 1).val < 256 := (y 1).isLt
    have e0 : ((win0_2.blk t).view.emb y 0).val = (cfg0.grid.coords t 0).val := by
      show cc0_transform_2 (cfg0.grid.coords t) 0 * 1 + 1 * (y 0).val = _
      have : (y 0).val < 1 := (y 0).isLt
      rw [hc]; show (cfg0.grid.coords t 0).val * 1 + 1 * (y 0).val = _; omega
    have e1 : ((win0_2.blk t).view.emb y 1).val = 256 * (cfg0.grid.coords t 1).val + (y 1).val := by
      show cc0_transform_2 (cfg0.grid.coords t) 1 * 256 + 1 * (y 1).val = _
      rw [hc]; show (cfg0.grid.coords t 1).val * 256 + 1 * (y 1).val = _; omega
    have e2 : ((win0_2.blk t).view.emb y 2).val = (y 2).val := by
      show cc0_transform_2 (cfg0.grid.coords t) 2 * 10000 + 1 * (y 2).val = _
      rw [hc]; show 0 * 10000 + 1 * (y 2).val = _; omega
    have h0' : (z 0).val = 512 * ((win0_2.blk t).view.emb y 0).val + ((win0_2.blk t).view.emb y 1).val % 512 := h0
    have h1' : (z 1).val = ((win0_2.blk t).view.emb y 2).val := h1
    rw [e0, e1] at h0'; rw [e2] at h1'
    have hv := hR y z (by omega) h1'
    have hi : ((win0_2.blk t).view.emb y 1).val < 512 ↔ (cfg0.grid.coords t 1).val < 2 := by rw [e1]; omega
    refine Eq.trans ?_ (hv.trans (congrArg qz (if_congr hi.symm rfl rfl)))
    show Function.update (fun _ _ _ => Classical.arbitrary _) (2 : Fin cfg0.W) X (2 : Fin cfg0.W) t _ = _
    rw [Function.update_self]
  · intro i
    have i0 : (i 0).val < 20 := (i 0).isLt
    have i1 : (i 1).val < 1024 := (i 1).isLt
    have i2 : (i 2).val < 10000 := (i 2).isLt
    obtain ⟨t, h0, h1⟩ := pt0 ⟨(i 0).val, i0⟩ ⟨(i 1).val / 256, by omega⟩
    have h0 : (cfg0.grid.coords t 0).val = (i 0).val := h0
    have h1 : (cfg0.grid.coords t 1).val = (i 1).val / 256 := h1
    have hc := coord0_2 t
    refine ⟨t, flush0_2 t, ?_⟩
    have e : (win0_2.blk t).view.emb (fun a => match a with | ⟨0, _⟩ => ⟨0, show 0 < 1 from Nat.one_pos⟩ | ⟨1, _⟩ => ⟨(i 1).val % 256, Nat.mod_lt _ (by decide)⟩ | ⟨2, _⟩ => ⟨(i 2).val, i2⟩) = i := by
      funext a; apply Fin.ext
      match a with
      | ⟨0, _⟩ =>
        show cc0_transform_2 (cfg0.grid.coords t) 0 * 1 + 1 * 0 = (i 0).val
        rw [hc]; show (cfg0.grid.coords t 0).val * 1 + 1 * 0 = _; omega
      | ⟨1, _⟩ =>
        show cc0_transform_2 (cfg0.grid.coords t) 1 * 256 + 1 * ((i 1).val % 256) = (i 1).val
        rw [hc]; show (cfg0.grid.coords t 1).val * 256 + 1 * ((i 1).val % 256) = _; omega
      | ⟨2, _⟩ =>
        show cc0_transform_2 (cfg0.grid.coords t) 2 * 10000 + 1 * (i 2).val = (i 2).val
        rw [hc]; show 0 * 10000 + 1 * (i 2).val = _; omega
    exact e ▸ (win0_2.blk t).view.emb_mem_set _

/-! ## The record -/

theorem arr_sub : Pipeline.arrRefs (τ := τ) spec0 ⊆ Pipeline.ucRefs τ sig := Pipeline.arrRefs_sub_ucRefs spec0 (by decide)

theorem share_full (c : Dev nD) : ∀ w, (dat V c).share w = fullShare
  | ⟨0, _⟩ => rfl
  | ⟨1, _⟩ => rfl
  | ⟨2, _⟩ => rfl

/-- The arrays at the region's end are what held them, the eight-bit array at contents as said. -/
theorem arrays_exit (c : Dev nD) : ((dat V c).toRRel fgt (Rl V c)).arraysAt cfg0.N
    ⊢ (iprop(∃ x, ⌜Sel V c x⌝ ∗ StableHlo.held (c : Thread nD τ) (Pipeline.arrRefs spec0) (Function.update (V c) main_v16 x)) : sProp 𝕄) := by
  unfold RDat.arraysAt
  rw [bigSep_W0]
  iintro ⟨⟨%F0, %h0, H0⟩, ⟨%F1, %h1, H1⟩, ⟨%x, %h2, H2⟩⟩
  have e0 : F0 = V c main_arg0 := by
    rw [RDat.ArrAt_in ((dat V c).toRRel fgt (Rl V c)) 0 rfl] at h0; exact h0
  have e1 : F1 = V c main_arg1 := by
    rw [RDat.ArrAt_in ((dat V c).toRRel fgt (Rl V c)) 1 rfl] at h1; exact h1
  subst e0 e1
  have hh : (dat V c).arrays (fun w => Function.update (V c) main_v16 x (Proc.devRef .tc (Pipeline.arrRef spec0 w)))
      ⊢ (StableHlo.held (c : Thread nD τ) (Pipeline.arrRefs spec0) (Function.update (V c) main_v16 x) : sProp 𝕄) :=
    Eq.le (Pipeline.arrays_held (pcfgs (F := F)) adm (pds V) 0 launch0.toP c (share_full V c) _ _ (fun _ => rfl))
  unfold Dat.arrays at hh
  rw [bigSep_W0] at hh
  beta_reduce at hh
  have n0 : Function.update (V c) main_v16 x main_arg0 = V c main_arg0 := Function.update_of_ne (StableHlo.devRef_ne_of_ne (by decide)) _ _
  have n1 : Function.update (V c) main_v16 x main_arg1 = V c main_arg1 := Function.update_of_ne (StableHlo.devRef_ne_of_ne (by decide)) _ _
  have n2 : Function.update (V c) main_v16 x main_v16 = x := Function.update_self _ _ _
  iexists x
  isplitr
  · ipureintro; exact sel_of V c x h2
  iapply hh
  isplitl [H0]
  · rw [show Function.update (V c) main_v16 x (Proc.devRef .tc (Pipeline.arrRef spec0 0)) = V c main_arg0 from n0]; iexact H0
  isplitl [H1]
  · rw [show Function.update (V c) main_v16 x (Proc.devRef .tc (Pipeline.arrRef spec0 1)) = V c main_arg1 from n1]; iexact H1
  rw [show Function.update (V c) main_v16 x (Proc.devRef .tc (Pipeline.arrRef spec0 2)) = x from n2]; iexact H2

theorem out_mem : (main_v16 : DevRef τ sig) ∈ Pipeline.arrRefs (τ := τ) spec0 :=
  Finset.mem_map.mpr ⟨main_v16, Finset.mem_image.mpr ⟨2, Finset.mem_univ _, rfl⟩, rfl⟩

/-- The levels: every staging semaphore carries the one index. -/
theorem cut0 : Pipeline.LevelCut (pcfgs (F := F)) adm () L lv 0 (fun _ => 0) (fun _ => 0) where
  hι c w s := by unfold L; rw [if_pos rfl]; exact Finset.mem_singleton_self _
  hιb c w s := Nat.le_refl 0
  hD c g i h := absurd h (Nat.lt_irrefl 0)

theorem kit0 : Pipeline.PLaunchFacts (nD := nD) (τ := τ) (pcfgs (F := F)) 0 := launch0.toP

/-- The region's record: entered with every buffer at `V c`, left with the eight-bit array at some contents as said and every other buffer as it was. -/
def region : RDat.RegionSeg (pcfgs (F := F)) adm (rds V) () defs₀ 𝒱₀ L lv 0 where
  win := (kit0 (F := F)).to₀.win
  block_pos := (kit0 (F := F)).to₀.block_pos
  stage_whole := (kit0 (F := F)).to₀.stage_whole
  K := PEmpty
  osem k := k.elim
  ho := Pipeline.OwnSemFacts.none _
  hbody c := (body_obligation V c).toRRel
  hwaits c := RDat.cellsWaits_of_cut (Pipeline.pin (pcfgs (F := F)) adm) (rds V) () 0 c 0 0 (fun _ => rfl) ((cut0 (F := F)).hι c) ((cut0 (F := F)).hιb c) ((cut0 (F := F)).hD c)
  pre c := iprop(StableHlo.held (c : Thread nD τ) (Pipeline.ucRefs τ sig) (V c) ∗ R c)
  post c := iprop(∃ x, ⌜Sel V c x⌝ ∗ StableHlo.held (c : Thread nD τ) (Pipeline.ucRefs τ sig) (Function.update (V c) main_v16 x) ∗ R c)
  X c := BI.emp
  Y c := BI.emp
  Z c := StableHlo.held (c : Thread nD τ) (Pipeline.ucRefs τ sig \ Pipeline.arrRefs spec0) (V c)
  hentry c := by
    show _ ⊢ |={Set.univ}=> iprop((dat V c).arrays (dat V c).A ∗ Pipeline.prefHeld (pcfgs (F := F) 0).pre c (fun _ => fullShare) (adm 0).1
        ∗ (dat V c).owesAt () 0 ∗ _ ∗ _)
    rw [Pipeline.ownSems0_none, Pipeline.prefHeld_of_none _ rfl, StableHlo.held_sub_split (c : Thread nD τ) arr_sub (V c),
      show (dat V c).arrays (dat V c).A = (StableHlo.held (c : Thread nD τ) (Pipeline.arrRefs spec0) (V c) : sProp 𝕄) from
        Pipeline.arrays_held (pcfgs (F := F)) adm (pds V) 0 launch0.toP c (share_full V c) _ _ (fun _ => rfl)]
    iintro ⟨⟨⟨Ha, Hr⟩, HO⟩, -, -⟩
    imodintro
    isplitl [Ha]; · iexact Ha
    isplitr; · iempintro
    isplitl [HO]
    · unfold Dat.owesAt Pipeline.owesWithin Dat.bound
      icases HO with ⟨%W, HO⟩; iexists W
      isplitr; · ipureintro; exact fun _ _ => Or.inl trivial
      iexact HO
    isplitr; · iempintro
    iexact Hr
  hin c := by
    show iprop(_ ∗ _ ∗ Pipeline.scopedRest spec0 c) ⊢ Pipeline.scopedRest spec0 c
    iintro ⟨-, -, H⟩
    iexact H
  hout c := by
    show Pipeline.scopedRest spec0 c ⊢ iprop(BI.emp ∗ _ ∗ Pipeline.scopedRest spec0 c)
    rw [Pipeline.ownSems0_none]
    iintro H
    isplitr; · iempintro
    isplitr; · iempintro
    iexact H
  hexit c := by
    show iprop(((dat V c).toRRel fgt (Rl V c)).arraysAt cfg0.N ∗ (dat V c).owesAt () (Fin.last cfg0.N) ∗ _ ∗ _) ⊢ _
    iintro ⟨Ha, HO, -, Hr⟩
    ihave Ha := (arrays_exit V c) $$ Ha
    icases Ha with ⟨%x, %hx, Ha⟩
    imodintro
    iexists x
    rw [StableHlo.held_sub_split (c : Thread nD τ) arr_sub (Function.update (V c) main_v16 x),
      StableHlo.held_congr (c : Thread nD τ) (S := Pipeline.ucRefs τ sig \ Pipeline.arrRefs spec0) (V := Function.update (V c) main_v16 x) (V' := V c) fun d hd =>
        Function.update_of_ne (fun e => (Finset.mem_sdiff.mp hd).2 (by rw [e]; exact out_mem)) _ _]
    isplitr; · ipureintro; exact hx
    isplitl [Ha Hr]
    · isplitl [Ha]; · iexact Ha
      iexact Hr
    unfold Dat.owesAt Pipeline.owesWithin
    icases HO with ⟨%Wd, -, HO⟩; iexists Wd; iexact HO

end Cert.KernelIdeal.Quant
end
-- ==== Proof.DiffBody.lean ====
/- What one grid point of the second kernel does. Step `s` of the iteration is the first coordinate of the grid, the block of rows `j` the second. The point
   multiplies the current state, of which it uses the first 10000 columns, by one block of the eight-bit matrix; it writes the two halves of the next state's
   block to the two output buffers, and to the columns `512 j …` of the other state buffer. At the very first point the state is first copied in. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Kit
public import Idealize.ShloMosaic.Lib.Pipeline.Frame
public import Idealize.ShloMosaic.Lib.Pipeline.FrameBody
public import Idealize.ShloMosaic.Lib.Pipeline.DatRel
public import Idealize.ShloMosaic.Lib.Tactic
public import proofs.«01_k».proof.Proof.Views

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

/-- The first 10000 columns of a state. -/
def srcL (T : Vec F S256x10240 .bf16) : Vec F S256x10000 .bf16 :=
  View.ld T (Rect.unit (s := S256x10240) ![0, 0] S256x10000.size inb_S256x10240_S256x10000_0_0)

theorem txInb (j : ℕ) (hj : j < 20) : ∀ a : Fin 2, (![0, 512 * j] : Fin 2 → ℕ) a + S128x512.size a ≤ S128x10240.size a
  | ⟨0, _⟩ => Nat.le_refl 128
  | ⟨1, _⟩ => show 512 * j + 512 ≤ 10240 by omega

/-- The columns `512 j …` of the scaled features. -/
def txL (j : ℕ) (hj : j < 20) (TX : Vec F S128x10240 .f32) : Vec F S128x512 .f32 :=
  View.ld TX (Rect.unit (s := S128x10240) ![0, 512 * j] S128x512.size (txInb j hj))

/-- The state the first buffer holds at a grid point: at the very first one, the state copied in. -/
def cur0 (i : grid1.Coords) (PM S0 : Vec F S256x10240 .bf16) : Vec F S256x10240 .bf16 :=
  if (i 0).val = 0 ∧ (i 1).val = 0 then PM else S0

/-- The condition of the first branch. -/
def condA (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

theorem condA_iff : ∀ i : grid1.Coords, condA i = 1#1 ↔ ((i 0).val = 0 ∧ (i 1).val = 0) := by decide +kernel
theorem cond2_iff : ∀ i : grid1.Coords, k1_cond2 i = 1#1 ↔ (i 0).val % 2 = 0 := by decide +kernel
theorem cond3_iff : ∀ i : grid1.Coords, k1_cond3 i = 1#1 ↔ ¬ (i 0).val % 2 = 0 := by decide +kernel
theorem off1_eq : ∀ i : grid1.Coords, k1_off1 i = ![0, 512 * (i 1).val] := by decide +kernel
theorem off2_eq : ∀ i : grid1.Coords, k1_off2 i = ![0, 512 * (i 1).val] := by decide +kernel
theorem off3_eq : ∀ i : grid1.Coords, k1_off3 i = ![0, 512 * (i 1).val] := by decide +kernel
theorem off4_eq : ∀ i : grid1.Coords, k1_off4 i = ![0, 512 * (i 1).val] := by decide +kernel

theorem pay1_eq (v : Vec F S256x10240 .bf16) : k1_pay1 v = v := by
  unfold k1_pay1; dsimp only; rw [shapeCast_self, shapeCast_self]

/-- A load of columns at offsets equal to `512 j`. -/
theorem ldTx (j : ℕ) (hj : j < 20) (TX : Vec F S128x10240 .f32) {off : Fin 2 → ℕ} (h : off = ![0, 512 * j])
    (inb : ∀ a : Fin 2, off a + S128x512.size a ≤ S128x10240.size a) :
    View.ld TX (Rect.unit (s := S128x10240) off S128x512.size inb) = txL j hj TX := by subst h; rfl

theorem isLt1 (i : grid1.Coords) : (i 1).val < 20 := (i 1).isLt

theorem pay7_congr {a a' : Vec F S1x1024x10000 .fp8e4m3} {b b' : Vec F S256x10000 .bf16} {c c' : Vec F S128x512 .f32} (h : a = a') (h' : b = b') (h'' : c = c') :
    k1_pay7 a b c = k1_pay7 a' b' c' := by rw [h, h', h'']
theorem pay8_congr {a a' : Vec F S1x1024x10000 .fp8e4m3} {b b' : Vec F S256x10000 .bf16} (h : a = a') (h' : b = b') :
    k1_pay8 a b = k1_pay8 a' b' := by rw [h, h']
theorem pay9_congr {a a' : Vec F S1x1024x10000 .fp8e4m3} {b b' : Vec F S256x10000 .bf16} {c c' : Vec F S128x512 .f32} (h : a = a') (h' : b = b') (h'' : c = c') :
    k1_pay9 a b c = k1_pay9 a' b' c' := by rw [h, h', h'']

/-- A load of columns through a buffer that holds `TX`. -/
theorem readTx {sig' : RefSig} {κ : Kind} {sp : Space} (v : View sig' κ sp S128x10240 .f32) (f : v.ty.Contents (Elt F)) {TX : Vec F S128x10240 .f32}
    (hf : v.read (Elt F) f = TX) (j : ℕ) (hj : j < 20) {off : Fin 2 → ℕ} (h : off = ![0, 512 * j])
    (inb : ∀ a : Fin 2, off a + S128x512.size a ≤ S128x10240.size a) :
    v.readAt (Elt F) (Rect.unit (s := S128x10240) off S128x512.size inb).toLoadRect f = txL j hj TX := by
  rw [View.readAt_eq_ld, hf]; exact ldTx j hj TX h inb

/-- A load of the first 10000 columns of a buffer that holds `T`. -/
theorem readSrc {sig' : RefSig} {κ : Kind} {sp : Space} (v : View sig' κ sp S256x10240 .bf16) (f : v.ty.Contents (Elt F)) {T : Vec F S256x10240 .bf16}
    (hf : v.read (Elt F) f = T) :
    v.readAt (Elt F) (Rect.unit (s := S256x10240) ![0, 0] S256x10000.size inb_S256x10240_S256x10000_0_0).toLoadRect f = srcL T := by
  rw [View.readAt_eq_ld, hf]; rfl

/-- The same load straight after one store over the whole buffer. -/
theorem readCovSrc {sig' : RefSig} {κ : Kind} {sp : Space} (v : View sig' κ sp S256x10240 .bf16) (T : Vec F S256x10240 .bf16) :
    v.readCov [(⟨Rect.unit (s := S256x10240) ![0, 0] S256x10240.size inb_S256x10240_S256x10240_0_0, T⟩ : View.Piece (Elt F) S256x10240 .bf16)]
      (Rect.unit (s := S256x10240) ![0, 0] S256x10000.size inb_S256x10240_S256x10000_0_0).toLoadRect = srcL T :=
  readSrc v _ (Views.read_write_whole v _ (funext fun a => by fin_cases a <;> rfl) inb_S256x10240_S256x10240_0_0 T)

variable {Ix : Type} [DecidableEq Ix] {U : Type} [URA U] {Lvl : Type} [Preorder Lvl]

local notation "𝕄" => MT nD τ sig Ix (Elt F) ℕ U Lvl

/-- The body at a point of an even step. -/
theorem body_even
    (c : Dev nD) (E : Set ℕ) (i : grid1.Coords) (M2 : Memref sig .tc .vmem S1x1024x10000 .fp8e4m3) (h2 : M2.IsWhole)
    (M3 : Memref sig .tc .vmem S256x10240 .bf16) (h3 : M3.IsWhole) (M4 : Memref sig .tc .vmem S128x10240 .f32) (h4 : M4.IsWhole)
    (M5 : Memref sig .tc .vmem S1x128x512 .f32) (h5 : M5.IsWhole) (M6 : Memref sig .tc .vmem S1x128x512 .f32) (h6 : M6.IsWhole)
    (M7 : Memref sig .tc .vmem S256x10240 .bf16) (h7 : M7.IsWhole) (M8 : Memref sig .tc .vmem S256x10240 .bf16) (h8 : M8.IsWhole)
    (A : Vec F S1x1024x10000 .fp8e4m3) (PM : Vec F S256x10240 .bf16) (TX : Vec F S128x10240 .f32) (B5 B6 : Vec F S1x128x512 .f32)
    (S0 S1 : Vec F S256x10240 .bf16) (K : PUnit → sProp 𝕄)
    (he : (i 0).val % 2 = 0) :
    iprop((owns (c : Thread nD τ) M2 fullShare (A) ∗ owns (c : Thread nD τ) M3 fullShare (PM) ∗ owns (c : Thread nD τ) M4 fullShare (TX) ∗ owns (c : Thread nD τ) M5 fullShare (B5) ∗ owns (c : Thread nD τ) M6 fullShare (B6) ∗ owns (c : Thread nD τ) M7 fullShare (S0) ∗ owns (c : Thread nD τ) M8 fullShare (S1))
        ∗ ((owns (c : Thread nD τ) M2 fullShare (A) ∗ owns (c : Thread nD τ) M3 fullShare (PM) ∗ owns (c : Thread nD τ) M4 fullShare (TX) ∗ owns (c : Thread nD τ) M5 fullShare (k1_pay7 A (srcL (cur0 i PM S0)) (txL (i 1).val (isLt1 i) TX)) ∗ owns (c : Thread nD τ) M6 fullShare (k1_pay8 A (srcL (cur0 i PM S0))) ∗ owns (c : Thread nD τ) M7 fullShare (cur0 i PM S0) ∗ owns (c : Thread nD τ) M8 fullShare (Views.colUpd (512 * (i 1).val) (k1_pay9 A (srcL (cur0 i PM S0)) (txL (i 1).val (isLt1 i) TX)) S1)) -∗ K ⟨⟩))
      ⊢ wp frame (wpE (defs₀ (F := F)) Variants.none (c : Thread nD τ) none) E (cc1__diffusion_kernel i M2 h2 M3 h3 M4 h4 M5 h5 M6 h6 M7 h7 M8 h8) K := by
  have hz2 : (![0, 0] : Fin 2 → ℕ) = fun _ => 0 := funext fun a => by fin_cases a <;> rfl
  have hz3 : (![0, 0, 0] : Fin 3 → ℕ) = fun _ => 0 := funext fun a => by fin_cases a <;> rfl
  have hc2 := (cond2_iff i).mpr he
  have hc3 : ¬ k1_cond3 i = 1#1 := fun h => (cond3_iff i).mp h he
  rw [cc1__diffusion_kernel_eq_skeleton]; unfold cc1__diffusion_kernel_skel
  by_cases hA : (i 0).val = 0 ∧ (i 1).val = 0
  · have hcA : condA i = 1#1 := (condA_iff i).mpr hA
    unfold condA at hcA
    simp only [dif_pos hcA, dif_pos hc2, dif_neg hc3]
    rw [show cur0 i PM S0 = PM from if_pos hA]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    have e2 := (Views.readAt_whole M2.view f0 hz3 inb_S1x1024x10000_S1x1024x10000_0_0_0).trans hf0
    have eT := readTx M4.view f2 hf2 (i 1).val (isLt1 i) (off1_eq i) (k1_off1_inb i hc2)
    have e7 := (readCovSrc M7.view _).trans (congrArg srcL ((pay1_eq _).trans ((Views.readAt_whole M3.view f1 hz2 inb_S256x10240_S256x10240_0_0).trans hf1)))
    sl_step
    iapply Hk
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists _; isplitr; swap; · iexact H3
                    ipureintro
                    exact (Views.read_write_whole M5.view f3 hz3 _ _).trans (pay7_congr e2 e7 eT)
    isplitl [H4]; · iexists _; isplitr; swap; · iexact H4
                    ipureintro
                    exact (Views.read_write_whole M6.view f4 hz3 _ _).trans (pay8_congr e2 e7)
    isplitl [H5]; · iexists _; isplitr; swap; · iexact H5
                    ipureintro
                    exact (Views.read_write_whole M7.view f5 hz2 _ _).trans ((pay1_eq _).trans ((Views.readAt_whole M3.view f1 hz2 _).trans hf1))
    iexists _; isplitr; swap; · iexact H6
    ipureintro
    exact (Views.read_write_cols M8.view f6 (off2_eq i) _ _).trans (congrArg₂ (Views.colUpd (512 * (i 1).val)) (pay9_congr e2 e7 eT) hf6)
  · have hcA : ¬ condA i = 1#1 := fun h => hA ((condA_iff i).mp h)
    unfold condA at hcA
    simp only [dif_neg hcA, dif_pos hc2, dif_neg hc3]
    rw [show cur0 i PM S0 = S0 from if_neg hA]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_exec
    have e2 := (Views.readAt_whole M2.view f0 hz3 inb_S1x1024x10000_S1x1024x10000_0_0_0).trans hf0
    have eT := readTx M4.view f2 hf2 (i 1).val (isLt1 i) (off1_eq i) (k1_off1_inb i hc2)
    have e7 := readSrc M7.view f5 hf5
    sl_step
    iapply Hk
    isplitl [H0]; · iexists f0; isplitr; · ipureintro; exact hf0
                    iexact H0
    isplitl [H1]; · iexists f1; isplitr; · ipureintro; exact hf1
                    iexact H1
    isplitl [H2]; · iexists f2; isplitr; · ipureintro; exact hf2
                    iexact H2
    isplitl [H3]; · iexists _; isplitr; swap; · iexact H3
                    ipureintro
                    exact (Views.read_write_whole M5.view f3 hz3 _ _).trans (pay7_congr e2 e7 eT)
    isplitl [H4]; · iexists _; isplitr; swap; · iexact H4
                    ipureintro
                    exact (Views.read_write_whole M6.view f4 hz3 _ _).trans (pay8_congr e2 e7)
    isplitl [H5]; · iexists _; isplitr; swap; · iexact H5
                    ipureintro
                    exact hf5
    iexists _; isplitr; swap; · iexact H6
    ipureintro
    exact (Views.read_write_cols M8.view f6 (off2_eq i) _ _).trans (congrArg₂ (Views.colUpd (512 * (i 1).val)) (pay9_congr e2 e7 eT) hf6)

/-- The body at a point of an odd step. -/
theorem body_odd
    (c : Dev nD) (E : Set ℕ) (i : grid1.Coords) (M2 : Memref sig .tc .vmem S1x1024x10000 .fp8e4m3) (h2 : M2.IsWhole)
    (M3 : Memref sig .tc .vmem S256x10240 .bf16) (h3 : M3.IsWhole) (M4 : Memref sig .tc .vmem S128x10240 .f32) (h4 : M4.IsWhole)
    (M5 : Memref sig .tc .vmem S1x128x512 .f32) (h5 : M5.IsWhole) (M6 : Memref sig .tc .vmem S1x128x512 .f32) (h6 : M6.IsWhole)
    (M7 : Memref sig .tc .vmem S256x10240 .bf16) (h7 : M7.IsWhole) (M8 : Memref sig .tc .vmem S256x10240 .bf16) (h8 : M8.IsWhole)
    (A : Vec F S1x1024x10000 .fp8e4m3) (PM : Vec F S256x10240 .bf16) (TX : Vec F S128x10240 .f32) (B5 B6 : Vec F S1x128x512 .f32)
    (S0 S1 : Vec F S256x10240 .bf16) (K : PUnit → sProp 𝕄)
    (he : (i 0).val % 2 = 1) :
    iprop((owns (c : Thread nD τ) M2 fullShare (A) ∗ owns (c : Thread nD τ) M3 fullShare (PM) ∗ owns (c : Thread nD τ) M4 fullShare (TX) ∗ owns (c : Thread nD τ) M5 fullShare (B5) ∗ owns (c : Thread nD τ) M6 fullShare (B6) ∗ owns (c : Thread nD τ) M7 fullShare (S0) ∗ owns (c : Thread nD τ) M8 fullShare (S1))
        ∗ ((owns (c : Thread nD τ) M2 fullShare (A) ∗ owns (c : Thread nD τ) M3 fullShare (PM) ∗ owns (c : Thread nD τ) M4 fullShare (TX) ∗ owns (c : Thread nD τ) M5 fullShare (k1_pay7 A (srcL S1) (txL (i 1).val (isLt1 i) TX)) ∗ owns (c : Thread nD τ) M6 fullShare (k1_pay8 A (srcL S1)) ∗ owns (c : Thread nD τ) M7 fullShare (Views.colUpd (512 * (i 1).val) (k1_pay9 A (srcL S1) (txL (i 1).val (isLt1 i) TX)) S0) ∗ owns (c : Thread nD τ) M8 fullShare (S1)) -∗ K ⟨⟩))
      ⊢ wp frame (wpE (defs₀ (F := F)) Variants.none (c : Thread nD τ) none) E (cc1__diffusion_kernel i M2 h2 M3 h3 M4 h4 M5 h5 M6 h6 M7 h7 M8 h8) K := by
  have hz2 : (![0, 0] : Fin 2 → ℕ) = fun _ => 0 := funext fun a => by fin_cases a <;> rfl
  have hz3 : (![0, 0, 0] : Fin 3 → ℕ) = fun _ => 0 := funext fun a => by fin_cases a <;> rfl
  have hc3 := (cond3_iff i).mpr (by omega)
  have hc2 : ¬ k1_cond2 i = 1#1 := fun h => absurd ((cond2_iff i).mp h) (by omega)
  rw [cc1__diffusion_kernel_eq_skeleton]; unfold cc1__diffusion_kernel_skel
  have hcA : ¬ condA i = 1#1 := fun h => absurd ((condA_iff i).mp h).1 (by omega)
  unfold condA at hcA
  simp only [dif_neg hcA, dif_neg hc2, dif_pos hc3]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_exec
  have e2 := (Views.readAt_whole M2.view f0 hz3 inb_S1x1024x10000_S1x1024x10000_0_0_0).trans hf0
  have eT := readTx M4.view f2 hf2 (i 1).val (isLt1 i) (off3_eq i) (k1_off3_inb i hc3)
  have e7 := readSrc M8.view f6 hf6
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists _; isplitr; swap; · iexact H3
                  ipureintro
                  exact (Views.read_write_whole M5.view f3 hz3 _ _).trans (pay7_congr e2 e7 eT)
  isplitl [H4]; · iexists _; isplitr; swap; · iexact H4
                  ipureintro
                  exact (Views.read_write_whole M6.view f4 hz3 _ _).trans (pay8_congr e2 e7)
  isplitl [H5]; · iexists _; isplitr; swap; · iexact H5
                  ipureintro
                  exact (Views.read_write_cols M7.view f5 (off4_eq i) _ _).trans (congrArg₂ (Views.colUpd (512 * (i 1).val)) (pay9_congr e2 e7 eT) hf5)
  iexists _; isplitr; swap; · iexact H6
  ipureintro
  exact hf6

end Cert.KernelIdeal.Diff
end
-- ==== Proof.State.lean ====
/- The states the second kernel goes through. A state is the 256 rows (128 of the one matrix over 128 of the other) by 10240 columns that one of the two
   state buffers holds; the next one is computed 512 columns at a time, each from all of the present one. -/
module

public import proofs.«01_k».proof.Proof.DiffBody

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic

variable {F : FTy → Type} [FloatOps F]

/-- Block `i` of the eight-bit array. -/
def blkA (x : Vec F S20x1024x10000 .fp8e4m3) (i : ℕ) (hi : i < 20) : Vec F S1x1024x10000 .fp8e4m3 := fun y =>
  x (fun a => match a with
    | ⟨0, _⟩ => (⟨i, hi⟩ : Fin 20)
    | ⟨1, _⟩ => (⟨(y 1).val, (y 1).isLt⟩ : Fin 1024)
    | ⟨2, _⟩ => (⟨(y 2).val, (y 2).isLt⟩ : Fin 10000))

theorem colLt (y : S256x10240.Idx) : (y 1).val / 512 < 20 := by
  have : (y 1).val < 10240 := (y 1).isLt
  omega

/-- The place of a column within its block. -/
def colIdx (y : S256x10240.Idx) : S256x512.Idx := fun a => match a with
  | ⟨0, _⟩ => (⟨(y 0).val, (y 0).isLt⟩ : Fin 256)
  | ⟨1, _⟩ => (⟨(y 1).val % 512, Nat.mod_lt _ (by decide)⟩ : Fin 512)

/-- The next state. -/
def nextT (x : Vec F S20x1024x10000 .fp8e4m3) (TX : Vec F S128x10240 .f32) (T : Vec F S256x10240 .bf16) : Vec F S256x10240 .bf16 := fun y =>
  k1_pay9 (blkA x ((y 1).val / 512) (colLt y)) (srcL T) (txL ((y 1).val / 512) (colLt y) TX) (colIdx y)

/-- The state after `s` steps. -/
def ST (x : Vec F S20x1024x10000 .fp8e4m3) (PM : Vec F S256x10240 .bf16) (TX : Vec F S128x10240 .f32) : ℕ → Vec F S256x10240 .bf16
  | 0 => PM
  | s + 1 => nextT x TX (ST x PM TX s)

section
variable (x : Vec F S20x1024x10000 .fp8e4m3) (PM : Vec F S256x10240 .bf16) (TX : Vec F S128x10240 .f32)

/-- What the two state buffers hold before point `n`: one the present state, the other the columns of the next one computed so far. -/
def Inv (n : ℕ) (f0 f1 : Vec F S256x10240 .bf16) : Prop :=
  (n = 0 ∨ (if n / 20 % 2 = 0 then f0 else f1) = ST x PM TX (n / 20))
    ∧ ∀ y : S256x10240.Idx, (y 1).val < 512 * (n % 20) → (if n / 20 % 2 = 0 then f1 else f0) y = ST x PM TX (n / 20 + 1) y

/-- A point's block of columns, written over the columns computed before. -/
theorem upd_next (s i : ℕ) (hi : i < 20) (S : Vec F S256x10240 .bf16)
    (h : ∀ y : S256x10240.Idx, (y 1).val < 512 * i → S y = ST x PM TX (s + 1) y) (y : S256x10240.Idx) (hy : (y 1).val < 512 * (i + 1)) :
    Views.colUpd (512 * i) (k1_pay9 (blkA x i hi) (srcL (ST x PM TX s)) (txL i hi TX)) S y = ST x PM TX (s + 1) y := by
  unfold Views.colUpd
  split
  · rename_i hb
    have hb' : 512 * i ≤ (y 1).val ∧ (y 1).val < 512 * i + 512 := hb
    have e : i = (y 1).val / 512 := by omega
    subst e
    show _ = k1_pay9 (blkA x ((y 1).val / 512) (colLt y)) (srcL (ST x PM TX s)) (txL ((y 1).val / 512) (colLt y) TX) (colIdx y)
    refine congrArg _ (funext fun a => Fin.ext ?_)
    match a with
    | ⟨0, _⟩ => rfl
    | ⟨1, _⟩ => show (y 1).val - 512 * ((y 1).val / 512) = (y 1).val % 512; omega
  · rename_i hb
    have hb' : ¬ (512 * i ≤ (y 1).val ∧ (y 1).val < 512 * i + 512) := hb
    exact h y (by omega)

/-- From the buffers before a point of an even step to those after it. -/
theorem inv_even (n : ℕ) (he : n / 20 % 2 = 0) (f0 f1 : Vec F S256x10240 .bf16) (h : Inv x PM TX n f0 f1) (c0 : Vec F S256x10240 .bf16)
    (hc : c0 = if n = 0 then PM else f0) :
    c0 = ST x PM TX (n / 20) ∧ Inv x PM TX (n + 1) c0
      (Views.colUpd (512 * (n % 20)) (k1_pay9 (blkA x (n % 20) (Nat.mod_lt _ (by decide))) (srcL (ST x PM TX (n / 20))) (txL (n % 20) (Nat.mod_lt _ (by decide)) TX)) f1) := by
  obtain ⟨h0, h1⟩ := h
  rw [if_pos he] at h0 h1
  have e0 : c0 = ST x PM TX (n / 20) := by
    rcases h0 with h0 | h0
    · subst h0; rw [hc, if_pos rfl]; rfl
    · by_cases hn : n = 0
      · subst hn; rw [hc, if_pos rfl]; rfl
      · rw [hc, if_neg hn, h0]
  refine ⟨e0, ?_⟩
  have hu := upd_next x PM TX (n / 20) (n % 20) (Nat.mod_lt _ (by decide)) f1 h1
  by_cases hi : n % 20 = 19
  · have e1 : (n + 1) / 20 = n / 20 + 1 := by omega
    have e2 : (n + 1) % 20 = 0 := by omega
    unfold Inv
    rw [e1, e2, if_neg (by omega), if_neg (by omega)]
    refine ⟨.inr (funext fun y => hu y ?_), fun y hy => absurd hy (by omega)⟩
    have : (y 1).val < 10240 := (y 1).isLt
    omega
  · have e1 : (n + 1) / 20 = n / 20 := by omega
    have e2 : (n + 1) % 20 = n % 20 + 1 := by omega
    unfold Inv
    rw [e1, e2, if_pos he, if_pos he]
    exact ⟨.inr e0, fun y hy => hu y hy⟩

/-- The same of an odd step. -/
theorem inv_odd (n : ℕ) (he : n / 20 % 2 = 1) (f0 f1 : Vec F S256x10240 .bf16) (h : Inv x PM TX n f0 f1) :
    f1 = ST x PM TX (n / 20) ∧ Inv x PM TX (n + 1)
      (Views.colUpd (512 * (n % 20)) (k1_pay9 (blkA x (n % 20) (Nat.mod_lt _ (by decide))) (srcL (ST x PM TX (n / 20))) (txL (n % 20) (Nat.mod_lt _ (by decide)) TX)) f0) f1 := by
  obtain ⟨h0, h1⟩ := h
  rw [if_neg (by omega)] at h0 h1
  have e0 : f1 = ST x PM TX (n / 20) := by
    rcases h0 with h0 | h0
    · subst h0; exact absurd he (by decide)
    · exact h0
  refine ⟨e0, ?_⟩
  have hu := upd_next x PM TX (n / 20) (n % 20) (Nat.mod_lt _ (by decide)) f0 h1
  by_cases hi : n % 20 = 19
  · have e1 : (n + 1) / 20 = n / 20 + 1 := by omega
    have e2 : (n + 1) % 20 = 0 := by omega
    unfold Inv
    rw [e1, e2, if_pos (by omega), if_pos (by omega)]
    refine ⟨.inr (funext fun y => hu y ?_), fun y hy => absurd hy (by omega)⟩
    have : (y 1).val < 10240 := (y 1).isLt
    omega
  · have e1 : (n + 1) / 20 = n / 20 := by omega
    have e2 : (n + 1) % 20 = n % 20 + 1 := by omega
    unfold Inv
    rw [e1, e2, if_neg (by omega), if_neg (by omega)]
    exact ⟨.inr e0, fun y hy => hu y hy⟩

end

end Cert.KernelIdeal.Diff
end
-- ==== Proof.DiffRegion.lean ====
/- The second region's data: what each grid point finds in its buffers and what it leaves there, and the body's obligation. -/
module

public import proofs.«01_k».proof.Proof.State
public import proofs.«01_k».proof.Proof.Setup
public import Idealize.ShloMosaic.Lib.Pipeline.Value

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

open Cert.KernelIdeal.Run (UU L lv 𝒱₀ junkDat R)

variable {F : FTy → Type} [FloatOps F]

local notation "𝕄" => MT nD τ sig Unit (Elt F) ℕ UU ℕ

variable (V : (c : Dev nD) → Valuation τ sig (Elt F))

/-- A buffer at some contents. -/
abbrev anyB (c : Dev nD) (b : Ref sig .tc) : sProp 𝕄 := iprop(∃ f : Buf (Elt F) ((c : Thread nD τ).loc b), ((c : Thread nD τ).loc b) ↦{fullShare} f)

/-- The first region's staging buffers, which the second leaves alone. -/
def rest (c : Dev nD) : sProp 𝕄 :=
  iprop(anyB c cc0_stg0_0 ∗ anyB c cc0_stg0_1 ∗ anyB c cc0_stg1_0 ∗ anyB c cc0_stg1_1 ∗ anyB c cc0_stg2_0 ∗ anyB c cc0_stg2_1)

theorem cd1_0 : ∀ t : Fin cfg1.N, (cfg1.grid.coords t 0).val = t.val / 20 := by decide +kernel
theorem cd1_1 : ∀ t : Fin cfg1.N, (cfg1.grid.coords t 1).val = t.val % 20 := by decide +kernel

/-- The state before a point's step. -/
abbrev STV (c : Dev nD) (s : ℕ) : Vec F S256x10240 .bf16 := ST (V c main_v16) (V c main_v15) (V c main_v11) s
/-- The point's block of the eight-bit array. -/
abbrev bA (c : Dev nD) (t : Fin cfg1.N) : Vec F S1x1024x10000 .fp8e4m3 := blkA (V c main_v16) (t.val % 20) (Nat.mod_lt _ (by decide))
/-- The point's columns of the scaled features. -/
abbrev bX (c : Dev nD) (t : Fin cfg1.N) : Vec F S128x512 .f32 := txL (t.val % 20) (Nat.mod_lt _ (by decide)) (V c main_v11)

/-- The invariant: the two state buffers hold the present state and the columns of the next one computed so far. -/
def PhiN (c : Dev nD) (n : ℕ) : sProp 𝕄 :=
  iprop(∃ (f0 f1 : Vec F S256x10240 .bf16), ⌜Inv (V c main_v16) (V c main_v15) (V c main_v11) n f0 f1⌝
    ∗ owns (c : Thread nD τ) (Memref.whole cc1_scratch0) fullShare f0 ∗ owns (c : Thread nD τ) (Memref.whole cc1_scratch1) fullShare f1 ∗ rest c)

/-- What a point leaves in its buffers. -/
def aft (c : Dev nD) : (w : Fin cfg1.W) → (t : Fin cfg1.N) → (cfg1.win w).block.Idx → Elt F (cfg1.win w).elt
  | ⟨0, _⟩, t => bA V c t
  | ⟨1, _⟩, _ => V c main_v15
  | ⟨2, _⟩, _ => V c main_v11
  | ⟨3, _⟩, t => k1_pay7 (bA V c t) (srcL (STV V c (t.val / 20))) (bX V c t)
  | ⟨4, _⟩, t => k1_pay8 (bA V c t) (srcL (STV V c (t.val / 20)))

/-- The data of the region, from the buffers' contents at its entry. -/
def dat (c : Dev nD) : Dat τ (Elt F) Unit ℕ UU ℕ cfg1 c where
  A w := V c (Pipeline.arrRef spec1 w)
  after := aft V c
  Φ t := PhiN V c t.val
  q _ := fullShare
  owed _ := 0

abbrev pds : (p : Fin 2) → (c : Dev nD) → Dat τ (Elt F) Unit ℕ UU ℕ (Pipeline.pin (pcfgs (F := F)) adm p) c
  | ⟨0, _⟩, c => junkDat c
  | ⟨1, _⟩, c => dat V c

theorem tr1_0 : ∀ t : Fin cfg1.N, cc1_transform_0 (cfg1.grid.coords t) = ![t.val % 20, 0, 0] := by decide +kernel
theorem tr1_1 : ∀ t : Fin cfg1.N, cc1_transform_1 (cfg1.grid.coords t) = ![0, 0] := by decide +kernel
theorem tr1_2 : ∀ t : Fin cfg1.N, cc1_transform_2 (cfg1.grid.coords t) = ![0, 0] := by decide +kernel

theorem block0 (c : Dev nD) (t : Fin cfg1.N) : (win1_0.blk t).view.read (Elt F) (V c main_v16) = bA V c t := funext fun y => by
  rw [View.read_apply]
  refine congrArg (V c main_v16) (funext fun a => Fin.ext ?_)
  have hc := tr1_0 t
  match a with
  | ⟨0, _⟩ =>
    show cc1_transform_0 (cfg1.grid.coords t) 0 * 1 + 1 * (y 0).val = t.val % 20
    have : (y 0).val < 1 := (y 0).isLt
    rw [hc]; show t.val % 20 * 1 + 1 * (y 0).val = _; omega
  | ⟨1, _⟩ =>
    show cc1_transform_0 (cfg1.grid.coords t) 1 * 1024 + 1 * (y 1).val = (y 1).val
    rw [hc]; show 0 * 1024 + 1 * (y 1).val = _; omega
  | ⟨2, _⟩ =>
    show cc1_transform_0 (cfg1.grid.coords t) 2 * 10000 + 1 * (y 2).val = (y 2).val
    rw [hc]; show 0 * 10000 + 1 * (y 2).val = _; omega

theorem block1 (c : Dev nD) (t : Fin cfg1.N) : (win1_1.blk t).view.read (Elt F) (V c main_v15) = V c main_v15 := funext fun y => by
  rw [View.read_apply]
  refine congrArg (V c main_v15) (funext fun a => Fin.ext ?_)
  have hc := tr1_1 t
  match a with
  | ⟨0, _⟩ =>
    show cc1_transform_1 (cfg1.grid.coords t) 0 * 256 + 1 * (y 0).val = (y 0).val
    rw [hc]; show 0 * 256 + 1 * (y 0).val = _; omega
  | ⟨1, _⟩ =>
    show cc1_transform_1 (cfg1.grid.coords t) 1 * 10240 + 1 * (y 1).val = (y 1).val
    rw [hc]; show 0 * 10240 + 1 * (y 1).val = _; omega

theorem block2 (c : Dev nD) (t : Fin cfg1.N) : (win1_2.blk t).view.read (Elt F) (V c main_v11) = V c main_v11 := funext fun y => by
  rw [View.read_apply]
  refine congrArg (V c main_v11) (funext fun a => Fin.ext ?_)
  have hc := tr1_2 t
  match a with
  | ⟨0, _⟩ =>
    show cc1_transform_2 (cfg1.grid.coords t) 0 * 128 + 1 * (y 0).val = (y 0).val
    rw [hc]; show 0 * 128 + 1 * (y 0).val = _; omega
  | ⟨1, _⟩ =>
    show cc1_transform_2 (cfg1.grid.coords t) 1 * 10240 + 1 * (y 1).val = (y 1).val
    rw [hc]; show 0 * 10240 + 1 * (y 1).val = _; omega

/-- The inputs' buffers hold the block, the first state and the scaled features at every point. -/
theorem before0 (c : Dev nD) (t : Fin cfg1.N) (d) : (dat V c).before 0 t d = bA V c t :=
  (Dat.before_in_eq_fetched (dat V c) 0 rfl (fun _ => rfl) (fun _ _ _ => rfl) (fun t => (block0 V c t).symm) t d).trans (block0 V c t)
theorem before1 (c : Dev nD) (t : Fin cfg1.N) (d) : (dat V c).before 1 t d = V c main_v15 :=
  (Dat.before_in_eq_fetched (dat V c) 1 rfl (fun _ => rfl) (fun _ _ _ => rfl) (fun t => (block1 V c t).symm) t d).trans (block1 V c t)
theorem before2 (c : Dev nD) (t : Fin cfg1.N) (d) : (dat V c).before 2 t d = V c main_v11 :=
  (Dat.before_in_eq_fetched (dat V c) 2 rfl (fun _ => rfl) (fun _ _ _ => rfl) (fun t => (block2 V c t).symm) t d).trans (block2 V c t)

/-! ## The body -/

theorem txL_eq (c : Dev nD) (t : Fin cfg1.N) : txL (cfg1.grid.coords t 1).val (isLt1 (cfg1.grid.coords t)) (V c main_v11) = bX V c t := by
  have h : ∀ (j j' : ℕ) (hj : j < 20) (hj' : j' < 20) (e : j = j'), txL j hj (V c main_v11) = txL j' hj' (V c main_v11) := by
    intro j j' hj hj' e; subst e; rfl
  exact h _ _ _ _ (cd1_1 t)

theorem live1 (w : Fin cfg1.W) (i : grid1.Coords) : cfg1.idle w i = false := by
  have h : (!(k1_cond2 i == 1#1) && !(k1_cond3 i == 1#1)) = false := by
    by_cases h : (i 0).val % 2 = 0
    · rw [(cond2_iff i).mpr h]; rfl
    · rw [(cond3_iff i).mpr h]; simp
  match w with
  | ⟨0, _⟩ => rfl
  | ⟨1, _⟩ => rfl
  | ⟨2, _⟩ => rfl
  | ⟨3, _⟩ => exact h
  | ⟨4, _⟩ => exact h

theorem leaves_aft (c : Dev nD) (w : Fin cfg1.W) (t : Fin cfg1.N) :
    owns c ((cfg1.win w).stage (cfg1.slots t w)) fullShare (aft V c w t) ⊢ ((dat V c).leavesExact w t : sProp 𝕄) := by
  unfold Dat.leavesExact
  rw [live1 w]
  exact Entails.rfl

set_option backward.isDefEq.respectTransparency.types false in
/-- The body's obligation at every point. -/
theorem body_obligation (c : Dev nD) : Pipeline.BodyObligation (dat V c) (defs₀ (F := F)) 𝒱₀ () Set.univ := by
  intro t
  rw [Run.defs₀_row1]
  rw [bigSep_W1, bigSep_W1]
  show iprop(PhiN V c t.val ∗ _ ∗ (∃ d, owns _ _ _ _) ∗ (∃ d, owns _ _ _ _) ∗ (∃ d, owns _ _ _ _) ∗ (∃ d, owns _ _ _ _) ∗ (∃ d, owns _ _ _ _)) ⊢
    wp frame (wpE defs₀ 𝒱₀ c none) Set.univ (bodyAt1 t) fun _ =>
      iprop(PhiN V c (t.val + 1) ∗ (dat V c).owesAt () t.succ ∗ (dat V c).leavesExact 0 t ∗ (dat V c).leavesExact 1 t ∗ (dat V c).leavesExact 2 t
        ∗ (dat V c).leavesExact 3 t ∗ (dat V c).leavesExact 4 t)
  unfold PhiN
  iintro ⟨⟨%f0, %f1, %hI, HS0, HS1, Hr⟩, Ho, ⟨%d0, H0⟩, ⟨%d1, H1⟩, ⟨%d2, H2⟩, ⟨%d3, H3⟩, ⟨%d4, H4⟩⟩
  rw [before0 V c, before1 V c, before2 V c]
  have hc0 := cd1_0 t
  have hc1 := cd1_1 t
  by_cases he : t.val / 20 % 2 = 0
  · have hcur : cur0 (cfg1.grid.coords t) (V c main_v15) f0 = if t.val = 0 then V c main_v15 else f0 := by
      unfold cur0; rw [hc0, hc1]
      exact if_congr (by omega) rfl rfl
    obtain ⟨e0, hI'⟩ := inv_even _ _ _ t.val he f0 f1 hI _ hcur
    iapply (body_even (F := F) c Set.univ (cfg1.grid.coords t) _ _ _ _ _ _ _ _ _ _ _ _ _ _ (bA V c t) (V c main_v15) (V c main_v11) _ _ f0 f1 _ (by rw [hc0]; exact he))
    isplitl [H0 H1 H2 H3 H4 HS0 HS1]
    · isplitl [H0]; · iexact H0
      isplitl [H1]; · iexact H1
      isplitl [H2]; · iexact H2
      isplitl [H3]; · iexact H3
      isplitl [H4]; · iexact H4
      isplitl [HS0]; · iexact HS0
      iexact HS1
    rw [txL_eq V c t, hc1, e0]
    iintro ⟨H0, H1, H2, H3, H4, HS0, HS1⟩
    isplitl [HS0 HS1 Hr]
    · iexists _, _
      isplitr; · ipureintro; rw [e0] at hI'; exact hI'
      isplitl [HS0]; · iexact HS0
      isplitl [HS1]; · iexact HS1
      iexact Hr
    isplitl [Ho]; · iexact Ho
    isplitl [H0]; · iapply (leaves_aft V c 0 t); iexact H0
    isplitl [H1]; · iapply (leaves_aft V c 1 t); iexact H1
    isplitl [H2]; · iapply (leaves_aft V c 2 t); iexact H2
    isplitl [H3]; · iapply (leaves_aft V c 3 t); iexact H3
    iapply (leaves_aft V c 4 t); iexact H4
  · have he' : t.val / 20 % 2 = 1 := by omega
    obtain ⟨e0, hI'⟩ := inv_odd _ _ _ t.val he' f0 f1 hI
    iapply (body_odd (F := F) c Set.univ (cfg1.grid.coords t) _ _ _ _ _ _ _ _ _ _ _ _ _ _ (bA V c t) (V c main_v15) (V c main_v11) _ _ f0 f1 _ (by rw [hc0]; exact he'))
    isplitl [H0 H1 H2 H3 H4 HS0 HS1]
    · isplitl [H0]; · iexact H0
      isplitl [H1]; · iexact H1
      isplitl [H2]; · iexact H2
      isplitl [H3]; · iexact H3
      isplitl [H4]; · iexact H4
      isplitl [HS0]; · iexact HS0
      iexact HS1
    rw [txL_eq V c t, hc1, e0]
    iintro ⟨H0, H1, H2, H3, H4, HS0, HS1⟩
    isplitl [HS0 HS1 Hr]
    · iexists _, _
      isplitr; · ipureintro; rw [e0] at hI'; exact hI'
      isplitl [HS0]; · iexact HS0
      isplitl [HS1]; · iexact HS1
      iexact Hr
    isplitl [Ho]; · iexact Ho
    isplitl [H0]; · iapply (leaves_aft V c 0 t); iexact H0
    isplitl [H1]; · iapply (leaves_aft V c 1 t); iexact H1
    isplitl [H2]; · iapply (leaves_aft V c 2 t); iexact H2
    isplitl [H3]; · iapply (leaves_aft V c 3 t); iexact H3
    iapply (leaves_aft V c 4 t); iexact H4

/-! ## The record -/

theorem phi_in (c : Dev nD) : Pipeline.scopedRest spec1 c ⊢ PhiN V c 0 := by
  rw [scopedRest1_eq]
  unfold PhiN rest
  iintro ⟨B0, B1, B2, B3, B4, B5, ⟨%f0, S0⟩, ⟨%f1, S1⟩⟩
  iexists f0, f1
  isplitr
  · ipureintro; exact ⟨.inl rfl, fun y hy => absurd hy (by omega)⟩
  rw [owns_whole, owns_whole]
  isplitl [S0]; · iexact S0
  isplitl [S1]; · iexact S1
  isplitl [B0]; · iexact B0
  isplitl [B1]; · iexact B1
  isplitl [B2]; · iexact B2
  isplitl [B3]; · iexact B3
  isplitl [B4]; · iexact B4
  iexact B5

theorem phi_out (c : Dev nD) (n : ℕ) : PhiN V c n ⊢ Pipeline.scopedRest spec1 c := by
  rw [scopedRest1_eq]
  unfold PhiN rest
  simp only [owns_whole]
  iintro ⟨%f0, %f1, -, S0, S1, B0, B1, B2, B3, B4, B5⟩
  isplitl [B0]; · iexact B0
  isplitl [B1]; · iexact B1
  isplitl [B2]; · iexact B2
  isplitl [B3]; · iexact B3
  isplitl [B4]; · iexact B4
  isplitl [B5]; · iexact B5
  isplitl [S0]; · iexists f0; iexact S0
  iexists f1; iexact S1

theorem share_full (c : Dev nD) : ∀ w, (dat V c).share w = fullShare
  | ⟨0, _⟩ => rfl
  | ⟨1, _⟩ => rfl
  | ⟨2, _⟩ => rfl
  | ⟨3, _⟩ => rfl
  | ⟨4, _⟩ => rfl

theorem kit1 : Pipeline.PLaunchFacts (nD := nD) (τ := τ) (pcfgs (F := F)) 1 := launch1.toP

theorem cut1 : Pipeline.LevelCut (pcfgs (F := F)) adm () L lv 1 (fun _ => 0) (fun _ => 0) where
  hι c w s := by unfold L; rw [if_pos rfl]; exact Finset.mem_singleton_self _
  hιb c w s := Nat.le_refl 0
  hD c g i h := absurd h (Nat.lt_irrefl 0)

theorem arr_sub : Pipeline.arrRefs (τ := τ) spec1 ⊆ Pipeline.ucRefs τ sig := Pipeline.arrRefs_sub_ucRefs spec1 (by decide)

/-- The region's record: entered with every buffer at `V c`, left with the two outputs at what the region writes back. -/
def region : Pipeline.RegionSeg (pcfgs (F := F)) adm (pds V) () defs₀ 𝒱₀ L lv 1 :=
  Pipeline.RegionSeg.ofHeldIn (pcfgs (F := F)) adm (pds V) () defs₀ 𝒱₀ L lv 1 (fun _ => 0) (Pipeline.ucRefs τ sig) (fun _ => BI.emp) (fun _ => BI.emp)
    kit1 rfl (fun c => (body_obligation V c).loose) (fun _ _ => rfl) (fun _ => rfl) (share_full V)
    (fun c => (show iprop(Pipeline.scopedRest spec1 c ∗ BI.emp) ⊢ PhiN V c 0 from by iintro ⟨H, -⟩; iapply (phi_in V c); iexact H))
    (fun c => (show PhiN V c cfg1.N ⊢ iprop(Pipeline.scopedRest spec1 c ∗ BI.emp) from by
      iintro H; isplitl [H]; · iapply (phi_out V c cfg1.N); iexact H
      iempintro))
    (fun _ => 0) cut1 (fun _ => BI.emp) V (fun _ _ => rfl)

end Cert.KernelIdeal.Diff
end
-- ==== Proof.Run.lean ====
/- The run of the whole program: six stretches of array operations, the two regions and the closing stretch, one after another. -/
module

public import proofs.«01_k».proof.Proof.QuantRecord
public import proofs.«01_k».proof.Proof.DiffRegion
public import Idealize.ShloMosaic.Lib.Pipeline.RegionsForgetLinks
public import Idealize.ShloMosaic.Lib.HostLoop.Lifted
public import Idealize.ShloMosaic.Lib.HostLoop.Plain

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf CSeg Ticket)

variable {F : FTy → Type} [FloatOps F]

local notation "𝕄" => MT nD τ sig Unit (Elt F) ℕ UU ℕ

/-- The program calls no loop of host operations. -/
abbrev loops : Fin 0 → Prog (TpuEff nD τ sig (Elt F) (HostLoop.Sig (Pipeline.Sig Λ₀ (Fin 2) fun p => (pcfgs (F := F) p).Adm) 0) .tc) PUnit := fun l => l.elim0

/-- One ticket for each region. -/
abbrev tk : Fin 2 → Ticket (Ix := Unit) (Name := ℕ) (U := UU) (Lvl := ℕ) (nD := nD) (τ := τ) (pcfgs (F := F)) adm
  | ⟨0, h⟩ => { p := 0, pdats := fun _ c => junkDat c, EP := embAt (⟨0, h⟩ : Fin 2) }
  | ⟨1, h⟩ => { p := 1, pdats := fun _ c => junkDat c, EP := embAt (⟨1, h⟩ : Fin 2) }

variable (m : (ℓ : Loc nD τ sig) → Buf (Elt F) ℓ)

/-- The eight-bit array's contents: what the first region leaves and the second reads. -/
abbrev Q8 : Type := S20x1024x10000.Idx → Elt F .fp8e4m3

/-- The buffers after the first region has left `x`. -/
abbrev VQ (x : Q8 (F := F)) (c : Dev nD) : Valuation τ sig (Elt F) := Function.update (V6 m c) main_v16 x
/-- The buffers after the second region. -/
abbrev VD (x : Q8 (F := F)) (c : Dev nD) : Valuation τ sig (Elt F) := Pipeline.afterRegion (Diff.dat (VQ m x) c) (VQ m x c)
/-- The buffers at the end. -/
abbrev VE (x : Q8 (F := F)) (c : Dev nD) : Valuation τ sig (Elt F) := StableHlo.after hostOps2 (VD m x c)

abbrev KSeg : Type 1 := CSeg (pcfgs (F := F)) adm defs₀ 𝒱₀ L lv loops tk

/-- A stretch of array operations. -/
abbrev stretch (ops : List (HloOp τ sig (Elt F))) (hs : ops.Forall fun op => op.bufs ⊆ StableHlo.tcRefs τ sig)
    (hf : ops.Forall fun op => op.fresh = ∅) (V : Dev nD → Valuation τ sig (Elt F)) : KSeg (F := F) :=
  CSeg.ofOps _ _ _ _ _ _ _ _ (Pipeline.ucRefs τ sig) ops
    (fun op h => Pipeline.sub_ucRefs op ((List.forall_iff_forall_mem.mp hs) op h))
    (fun op h => (List.forall_iff_forall_mem.mp hf) op h) V R

abbrev seg0 : KSeg (F := F) := CSeg.regionAtR (pcfgs (F := F)) adm () cellOf_inj defs₀ 𝒱₀ L lv loops tk 0 (Quant.rds (V6 m)) (Quant.region (V6 m))
abbrev sel (x : Q8 (F := F)) (c : Dev nD) : Prop := Quant.Sel (V6 m) c x
abbrev seg1 : KSeg (F := F) := CSeg.regionF (pcfgs (F := F)) adm () cellOf_inj defs₀ 𝒱₀ L lv loops tk 1 (fun x => Diff.pds (VQ m x)) (fun x => Diff.region (VQ m x)) (sel m)
abbrev seg2 : KSeg (F := F) := CSeg.exSel (sel m) (fun x => stretch hostOps2 hostOps2_sub hostOps2_fresh (VD m x)) (StableHlo.seq hostOps2) (fun _ => rfl) 0 (fun _ => le_rfl) ∅ (fun _ => rfl)

abbrev segs : List (KSeg (F := F)) :=
  [stretch hostOps0 hostOps0_sub hostOps0_fresh (V0 m), stretch hostOps0_1 hostOps0_1_sub hostOps0_1_fresh (V1 m),
   stretch hostOps0_2 hostOps0_2_sub hostOps0_2_fresh (V2 m), stretch hostOps0_3 hostOps0_3_sub hostOps0_3_fresh (V3 m),
   stretch hostOps0_4 hostOps0_4_sub hostOps0_4_fresh (V4 m), stretch hostOps0_5 hostOps0_5_sub hostOps0_5_fresh (V5 m),
   seg0 m, seg1 m, seg2 m]

theorem main_run (c : Dev nD) : HostLoop.liftProg (L := 0) (main (F := F) c) = CSeg.runL (segs m) := by
  have h : HostLoop.liftProg (L := 0) (main (F := F) c) = Pipeline.chain
      [ StableHlo.seq hostOps0, StableHlo.seq hostOps0_1, StableHlo.seq hostOps0_2, StableHlo.seq hostOps0_3, StableHlo.seq hostOps0_4, StableHlo.seq hostOps0_5,
        Prog.lift (.customCall (HostLoop.inner (Pipeline.entry 0)) ()), Prog.lift (.customCall (HostLoop.inner (Pipeline.entry 1)) ()), StableHlo.seq hostOps2 ] := by
    rw [main_chain, HostLoop.liftProg_chain]
    simp only [List.map_cons, List.map_nil, HostLoop.liftProg_seq]
    rfl
  exact h.trans (by chain_rfl)

theorem segs_disjoint : (segs m).Pairwise fun s s' => Disjoint s.T s'.T := by
  refine List.Pairwise.cons (fun _ _ => Finset.disjoint_empty_left _) ?_
  refine List.Pairwise.cons (fun _ _ => Finset.disjoint_empty_left _) ?_
  refine List.Pairwise.cons (fun _ _ => Finset.disjoint_empty_left _) ?_
  refine List.Pairwise.cons (fun _ _ => Finset.disjoint_empty_left _) ?_
  refine List.Pairwise.cons (fun _ _ => Finset.disjoint_empty_left _) ?_
  refine List.Pairwise.cons (fun _ _ => Finset.disjoint_empty_left _) ?_
  refine List.Pairwise.cons (fun s hs => ?_) ?_
  · simp only [List.mem_cons, List.mem_nil_iff, or_false] at hs
    rcases hs with rfl | rfl
    · show Disjoint ({0} : Finset (Fin 2)) {1}
      decide
    · exact Finset.disjoint_empty_right _
  refine List.Pairwise.cons (fun s hs => ?_) (List.pairwise_singleton _ _)
  simp only [List.mem_cons, List.mem_nil_iff, or_false] at hs
  subst hs
  exact Finset.disjoint_empty_right _

/-! ## The links -/

abbrev T₀ (c : Dev nD) : sProp 𝕄 := iprop(StableHlo.held (c : Thread nD τ) (Pipeline.ucRefs τ sig) (V0 m c) ∗ R c)
abbrev Tₙ (c : Dev nD) : sProp 𝕄 := iprop(∃ x, ⌜sel m x c⌝ ∗ StableHlo.held (c : Thread nD τ) (Pipeline.ucRefs τ sig) (VE m x c))

theorem diff_pre (V : Dev nD → Valuation τ sig (Elt F)) (c : Dev nD) :
    iprop(StableHlo.held (c : Thread nD τ) (Pipeline.ucRefs τ sig) (V c) ∗ (R c ∗ BI.emp ∗ BI.emp)) ⊢ (Diff.region V).pre c := by
  unfold Diff.region
  exact Pipeline.RegionSeg.ofHeldIn_pre (pcs := pcfgs (F := F)) (a := adm) (pdats := Diff.pds V) (p := 1) (D := fun _ => 0) (X := fun _ => BI.emp) (Y := fun _ => BI.emp)
    (R := fun _ => BI.emp) (W := V) Diff.arr_sub c
theorem diff_post (V : Dev nD → Valuation τ sig (Elt F)) (c : Dev nD) :
    (Diff.region V).post c ⊢ iprop(StableHlo.held (c : Thread nD τ) (Pipeline.ucRefs τ sig) (Pipeline.afterRegion (Diff.dat V c) (V c)) ∗ (R c ∗ BI.emp ∗ BI.emp)) :=
  Pipeline.RegionSeg.ofHeldIn_post (pcs := pcfgs (F := F)) (a := adm) (pdats := Diff.pds V) (p := 1) (D := fun _ => 0) Diff.arr_sub c

theorem link1 (c : Dev nD) : (seg0 m).post c ⊢ (seg1 m).pre c := by
  show iprop(∃ x, ⌜sel m x c⌝ ∗ StableHlo.held (c : Thread nD τ) (Pipeline.ucRefs τ sig) (VQ m x c) ∗ R c)
    ⊢ iprop(∃ x, ⌜sel m x c⌝ ∗ (Diff.region (VQ m x)).pre c)
  iintro ⟨%x, %hx, Hh, HR⟩
  iexists x
  isplitr; · ipureintro; exact hx
  iapply (diff_pre (VQ m x) c)
  isplitl [Hh]; · iexact Hh
  isplitl [HR]; · iexact HR
  isplitr <;> iempintro

theorem link2 (c : Dev nD) : (seg1 m).post c ⊢ (seg2 m).pre c := by
  show iprop(∃ x, ⌜sel m x c⌝ ∗ (Diff.region (VQ m x)).post c)
    ⊢ iprop(∃ x, ⌜sel m x c⌝ ∗ (StableHlo.held (c : Thread nD τ) (Pipeline.ucRefs τ sig) (VD m x c) ∗ R c))
  iintro ⟨%x, %hx, H⟩
  iexists x
  isplitr; · ipureintro; exact hx
  ihave H' := (diff_post (VQ m x) c) $$ H
  icases H' with ⟨Hh, HR, -⟩
  isplitl [Hh]; · iexact Hh
  iexact HR

theorem link3 (c : Dev nD) : (seg2 m).post c ⊢ iprop(Tₙ m c ∗ ∃ W, owes (c.tc : Thread nD τ) (0 : CellTallies nD τ sig Unit) W) := by
  show iprop(∃ x, ⌜sel m x c⌝ ∗ (StableHlo.held (c : Thread nD τ) (Pipeline.ucRefs τ sig) (VE m x c) ∗ R c)) ⊢ _
  iintro ⟨%x, %hx, Hh, HR⟩
  isplitr [HR]
  · iexists x
    isplitr; · ipureintro; exact hx
    iexact Hh
  iexact HR

/-! ## The launch -/

theorem hinit (g : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (g c) ∗ BI.emp)) ∗ levAts L lv)
      ⊢ (|={Set.univ}=> bigSep Finset.univ (T₀ m) : sProp 𝕄) := by
  have h (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => (0 : CellTallies nD τ sig Unit)) c ∗ prngReg c (g c) ∗ BI.emp) ⊢ T₀ m c := by
    rw [show unscopedBufs c (fun b => m ((c : Thread nD τ).loc b)) = StableHlo.held (c : Thread nD τ) (Pipeline.ucRefs τ sig) (V0 m c) from Pipeline.unscopedBufs_held c (V0 m c)]
    iintro ⟨Hh, -, HO, -, -, -⟩
    isplitl [Hh]; · iexact Hh
    iexists ∅; iexact HO
  have h' := bigSep_mono (s := Finset.univ) fun (c : Dev nD) _ => h c
  iintro ⟨H, -⟩
  imodintro
  iapply (show _ ⊢ bigSep Finset.univ (T₀ m) from h')
  iexact H

abbrev tokens : UR sig nD τ := Rounds.initOf (Pipeline.cells (Pipeline.pin (pcfgs (F := F)) adm) cellOf_inj) (Pipeline.launchToks (Pipeline.pin (pcfgs (F := F)) adm) cellOf_inj)

theorem tk_own : (fun j => BI.own ((tk (F := F) j).EP (tokens (F := F))) : Fin 2 → sProp 𝕄) = fun j => BI.own (embAt (B := Counters) j (tokens (F := F))) := by
  funext j
  match j with | ⟨0, _⟩ => rfl | ⟨1, _⟩ => rfl

theorem hu₀ : (ownU ((fun _ => tokens (F := F), 1) : UU) : sProp 𝕄)
    ⊢ |={Set.univ}=> iprop((bigSep Finset.univ fun j => BI.own ((tk (F := F) j).EP (tokens (F := F)))) ∗ bigSep Finset.univ fun _ : Dev nD => (BI.emp : sProp 𝕄)) := by
  iintro Hu
  ihave H := (ownU_pair _ _) $$ Hu
  icases H with ⟨HX, -⟩
  imodintro
  isplitl [HX]
  · rw [tk_own]
    iapply (own_iprod (fun _ : Fin 2 => tokens (F := F)))
    iexact HX
  · rw [BI.bigSep_emp_const]; iempintro

/-! ## The run -/

set_option backward.isDefEq.respectTransparency.types false in
/-- From any memory with the semaphores at zero, every weakly fair execution terminates, nothing faulting, with every unscoped buffer at `VE` for some eight-bit array that the
    first region can leave, and every semaphore at zero. -/
theorem run_main (g : Dev nD → PrngReg) : θ_run defs (onTc (τ := τ) (main (F := F))) ⟨m, fun _ => 0, g⟩
    (fun r => (∀ c : Dev nD, ∃ x, sel m x c ∧ ∀ b ∈ Pipeline.ucRefs τ sig, r.2.mem ((c : Thread nD τ).1, b) = VE m x c b) ∧ r.2.sem = fun _ => 0) :=
  HostLoop.θ_run_of_lift (fun l => l.elim0) defs main _ _
  (Pipeline.θ_run_regions_loop_kit_sems (pcfgs (F := F)) adm cellOf_inj defs₀ 𝒱₀ L lv loops tk m g (fun c => HostLoop.liftProg (L := 0) (main c)) (segs m)
    (fun c Q => by rw [main_run m c]) (segs_disjoint m)
    (O₀ := fun _ => 0) (hL := L_off) (G := fun _ => BI.emp)
    (u₀ := ((fun _ => tokens (F := F), 1) : UU)) (hu₀ := hu₀)
    (T₀ := T₀ m) (Tₙ := Tₙ m)
    (hch := ⟨fun _ => .rfl, fun _ => .rfl, fun _ => .rfl, fun _ => .rfl, fun _ => .rfl, fun _ => .rfl, fun _ => .rfl, link1 m, link2 m, link3 m⟩)
    (hinit := hinit m g)
    (QY := fun c s => ∃ x, sel m x c ∧ ∀ b ∈ Pipeline.ucRefs τ sig, s.mem ((c : Thread nD τ).1, b) = VE m x c b)
    (hfin := fun c s' => by
      unfold Tₙ StableHlo.held
      iintro ⟨⟨%x, %hx, Hh⟩, HSI⟩
      ihave Hp := (pointsTo_read_all (Pipeline.ucRefs τ sig) (fun b => ((c : Thread nD τ).1, b)) (VE m x c) s') $$ [Hh HSI]
      · isplitl [Hh] <;> iassumption
      icases Hp with ⟨%hb, HSI⟩
      imodintro
      isplitr; · ipureintro; exact ⟨x, hx, hb⟩
      iexact HSI)
    (hQ := fun _ h hz => ⟨h, funext fun g => hz g (.inr (regions_no_unscoped g.2))⟩))

/-- The second region leaves every array but its outputs as it was. -/
theorem VD_keeps (x : Q8 (F := F)) (c : Dev nD) (r : Ref sig .tc) (h : ∀ w, Pipeline.arrRef cfg1.spec w = r → (cfg1.win w).isOut = false) :
    VD m x c r = VQ m x c r :=
  Pipeline.afterRegion_keeps _ _ launch1.win.arr_inj (fun w => by match w with | ⟨0, _⟩ => rfl | ⟨1, _⟩ => rfl | ⟨2, _⟩ => rfl | ⟨3, _⟩ => rfl | ⟨4, _⟩ => rfl) r h

end Cert.KernelIdeal.Run
end
-- ==== Proof.Frame.lean ====
/- The run keeps the arguments. -/
module

public import proofs.«01_k».proof.Proof.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- An array that neither region nor the closing stretch writes is at the end as the opening stretches left it. -/
theorem VE_keeps (x : Q8 (F := F)) (c : Dev nD) (r : Ref sig .tc) (h2 : r ∉ hostOps2_W) (hw : ∀ w, Pipeline.arrRef cfg1.spec w = r → (cfg1.win w).isOut = false)
    (hq : r ≠ main_v16) : VE m x c r = V6 m c r :=
  (StableHlo.after_of_writes_sub hostOps2 _ hostOps2_writes h2).trans ((VD_keeps m x c r hw).trans (Function.update_of_ne (StableHlo.devRef_ne_of_ne hq) _ _))

theorem V6_arg0 (c : Dev nD) : V6 m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl
theorem V6_arg1 (c : Dev nD) : V6 m c main_arg1 = m ((c : Thread nD τ).loc main_arg1) :=
  (V6_of m c main_arg1 (by decide)).trans <| (V5_of m c main_arg1 (by decide)).trans <| (V4_of m c main_arg1 (by decide)).trans <|
    (V3_of m c main_arg1 (by decide)).trans <| (V2_of m c main_arg1 (by decide)).trans <| (V1_of m c main_arg1 (by decide)).trans rfl
theorem V6_arg2 (c : Dev nD) : V6 m c main_arg2 = m ((c : Thread nD τ).loc main_arg2) :=
  (V6_of m c main_arg2 (by decide)).trans <| (V5_of m c main_arg2 (by decide)).trans <| (V4_of m c main_arg2 (by decide)).trans <|
    (V3_of m c main_arg2 (by decide)).trans <| (V2_of m c main_arg2 (by decide)).trans <| (V1_of m c main_arg2 (by decide)).trans rfl

theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; decide⟩

/-- The end of a run: the arguments as launched, the two results at the closing stretch's, every semaphore at zero. -/
theorem run_ends (g : Dev nD → PrngReg) : θ_run defs (onTc (τ := τ) (main (F := F))) ⟨m, fun _ => 0, g⟩
    (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
      ∧ ∀ c : Dev nD, ∃ x, sel m x c ∧ r.2.mem ((c.tc : Thread nD τ).loc main_v20) = VE m x c main_v20 ∧ r.2.mem ((c.tc : Thread nD τ).loc main_v23) = VE m x c main_v23) := by
  refine (θ_run defs _ _).mono (fun r h => ⟨⟨fun c => ?_, h.2⟩, fun c => ?_⟩) (run_main m g)
  · obtain ⟨x, hx, hb⟩ := h.1 c
    exact ⟨(hb main_arg0 (mem_uc _ (by decide))).trans ((VE_keeps m x c main_arg0 (by decide) (by decide) (by decide)).trans (V6_arg0 m c)),
      (hb main_arg1 (mem_uc _ (by decide))).trans ((VE_keeps m x c main_arg1 (by decide) (by decide) (by decide)).trans (V6_arg1 m c)),
      (hb main_arg2 (mem_uc _ (by decide))).trans ((VE_keeps m x c main_arg2 (by decide) (by decide) (by decide)).trans (V6_arg2 m c))⟩
  · obtain ⟨x, hx, hb⟩ := h.1 c
    exact ⟨x, hx, hb main_v20 (mem_uc _ (by decide)), hb main_v23 (mem_uc _ (by decide))⟩

/-- The program terminates from any memory, leaves its arguments and its semaphores as they were. -/
theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => h.1) (run_ends m g)

end Cert.KernelIdeal.Run
end
-- ==== Proof.IdealStep.lean ====
/- One step of the second kernel at the ideal values, entry by entry: the scaled products sum to 1024 times the unscaled ones, and the scale comes off
   again, so a step's columns are the rows of one of the reference's layers. -/
module

public import proofs.«01_k».proof.Proof.State
public import Idealize.ShloMosaic.Lib.MatmulPlain
public import Idealize.ShloMosaic.Lib.ValueIdx
public import Idealize.ShloMosaic.Lib.Pipeline.Value
public import Idealize.ShloMosaic.PureOps.Ideal.Laws

@[expose] public section

set_option maxRecDepth 16384

noncomputable section

namespace Cert.KernelIdeal.Diff

open Cert.KernelIdeal Cert.KernelIdeal.Gen
open Idealize.ShloMosaic Idealize.ShloMosaic.TcCoe Idealize.ShloMosaic.ValueIdx
open scoped BigOperators

/-! ## The two constants -/

/-- The scale of the eight-bit array is 1024. -/
theorem scale_up : Ideal.ofBits .f32 0x44800000#32 = ((1024 : ℝ) : EReal) := by
  simp [Ideal.ofBits, Ideal.ieee, -EReal.coe_mul]; norm_num

/-- What takes it off is 1/1024. -/
theorem scale_down : Ideal.ofBits .f32 0x3A800000#32 = (((1 : ℝ) / 1024 : ℝ) : EReal) := by
  simp [Ideal.ofBits, Ideal.ieee, -EReal.coe_mul]; norm_num

/-- A sum of products whose second factors are scaled is the scaled sum. -/
theorem sum_scaled {n : ℕ} (p a : Fin n → EReal) : ∑ k, p k * (a k * ((1024 : ℝ) : EReal)) = (∑ k, a k * p k) * ((1024 : ℝ) : EReal) := by
  have h0 : (0 : EReal) ≤ ((1024 : ℝ) : EReal) := EReal.coe_nonneg.mpr (by norm_num)
  have hs : ∀ s : Finset (Fin n), ∑ k ∈ s, p k * (a k * ((1024 : ℝ) : EReal)) = (∑ k ∈ s, a k * p k) * ((1024 : ℝ) : EReal) := fun s => by
    induction s using Finset.cons_induction with
    | empty => simp
    | cons i s hi ih =>
      rw [Finset.sum_cons, Finset.sum_cons, EReal.right_distrib_of_nonneg_of_ne_top h0 (EReal.coe_ne_top _), ih, ← mul_assoc, mul_comm (p i) (a i)]
  exact hs _

/-- The scale comes off a sum of two scaled values. -/
theorem unscale (x y : EReal) : (x * ((1024 : ℝ) : EReal) + y * ((1024 : ℝ) : EReal)) * (((1 : ℝ) / 1024 : ℝ) : EReal) = x + y := by
  have h0 : (0 : EReal) ≤ ((1024 : ℝ) : EReal) := EReal.coe_nonneg.mpr (by norm_num)
  rw [← EReal.right_distrib_of_nonneg_of_ne_top h0 (EReal.coe_ne_top _), mul_assoc, ← EReal.coe_mul]
  norm_num

/-! ## The payloads at an index -/

/-- The product at an index. -/
theorem pay2_apply (v13 : Vec Ideal S1x1024x10000 .fp8e4m3) (v15 : Vec Ideal S256x10000 .bf16) (r : Fin 256) (q : Fin 1024) :
    k1_pay2 v13 v15 (ix2 r q) = ∑ k : Fin 10000, v15 (ix2 r k) * v13 (ix3 (0 : Fin 1) q k) := by
  unfold k1_pay2
  show FloatOps.matmul (DotDims.transposedRhs 256 10000 1024) none v15 (shapeCast S1024x10000 v13 shapeCasts_S1x1024x10000_S1024x10000 : FVec Ideal S1024x10000 .fp8e4m3) (constant S256x1024 .f32 0x00000000#32) (ix2 r q) = _
  rw [Ideal.matmul_transposedRhs_apply]
  show Ideal.ofBits .f32 0x00000000#32 + _ = _
  rw [Ideal.ofBits_zero_f32, zero_add]
  refine Finset.sum_congr rfl fun k _ => congrArg (v15 (ix2 r k) * ·) ?_
  refine (shapeCast_dropUnit_apply ![1024, 10000] v13 _ _).trans (congrArg v13 (funext fun a => Fin.ext ?_))
  match a with
  | ⟨0, _⟩ => rfl
  | ⟨1, _⟩ => rfl
  | ⟨2, _⟩ => rfl

theorem pay3_apply (v13 : Vec Ideal S1x1024x10000 .fp8e4m3) (v15 : Vec Ideal S256x10000 .bf16) (r : Fin 256) (q : Fin 512) :
    k1_pay3 v13 v15 (ix2 r q) = ∑ k : Fin 10000, v15 (ix2 r k) * v13 (ix3 (0 : Fin 1) (⟨q.val, by omega⟩ : Fin 1024) k) := by
  unfold k1_pay3
  refine (extractStridedSlice_apply _ _ _ _ (ix2 r (⟨q.val, by omega⟩ : Fin 1024)) fun a => ?_).trans (pay2_apply v13 v15 r _)
  match a with
  | ⟨0, _⟩ => show r.val = 0 + r.val; omega
  | ⟨1, _⟩ => show q.val = 0 + q.val; omega

theorem pay4_apply (v13 : Vec Ideal S1x1024x10000 .fp8e4m3) (v15 : Vec Ideal S256x10000 .bf16) (r : Fin 256) (q : Fin 512) :
    k1_pay4 v13 v15 (ix2 r q) = ∑ k : Fin 10000, v15 (ix2 r k) * v13 (ix3 (0 : Fin 1) (⟨512 + q.val, by omega⟩ : Fin 1024) k) := by
  unfold k1_pay4
  refine (extractStridedSlice_apply _ _ _ _ (ix2 r (⟨512 + q.val, by omega⟩ : Fin 1024)) fun a => ?_).trans (pay2_apply v13 v15 r _)
  match a with
  | ⟨0, _⟩ => show r.val = 0 + r.val; omega
  | ⟨1, _⟩ => rfl

/-- A row of the first matrix, and of the second, within the state. -/
abbrev rowP (d : Fin 128) : Fin 256 := ⟨d.val, by omega⟩
abbrev rowM (d : Fin 128) : Fin 256 := ⟨128 + d.val, by omega⟩

theorem pay5_apply (v13 : Vec Ideal S1x1024x10000 .fp8e4m3) (v15 : Vec Ideal S256x10000 .bf16) (v21 : Vec Ideal S128x512 .f32) (d : Fin 128) (q : Fin 512) :
    k1_pay5 v13 v15 v21 (ix2 d q)
      = (k1_pay3 v13 v15 (ix2 (rowP d) q) + k1_pay4 v13 v15 (ix2 (rowM d) q)) * Ideal.ofBits .f32 0x3A800000#32 + v21 (ix2 d q) := by
  have e3 : extractStridedSlice S128x512 ![0, 0] (k1_pay3 v13 v15) slices_S256x512_o0_0_S128x512 (ix2 d q) = k1_pay3 v13 v15 (ix2 (rowP d) q) :=
    extractStridedSlice_apply _ _ _ _ _ fun a => match a with
      | ⟨0, _⟩ => (Nat.zero_add _).symm
      | ⟨1, _⟩ => (Nat.zero_add _).symm
  have e4 : extractStridedSlice S128x512 ![128, 0] (k1_pay4 v13 v15) slices_S256x512_o128_0_S128x512 (ix2 d q) = k1_pay4 v13 v15 (ix2 (rowM d) q) :=
    extractStridedSlice_apply _ _ _ _ _ fun a => match a with
      | ⟨0, _⟩ => rfl
      | ⟨1, _⟩ => (Nat.zero_add _).symm
  rw [← e3, ← e4]
  unfold k1_pay5
  show _ = (_ + _) * _ + v21 (ix2 d q)
  rw [shapeCast_self]
  rfl

theorem pay6_apply (v13 : Vec Ideal S1x1024x10000 .fp8e4m3) (v15 : Vec Ideal S256x10000 .bf16) (d : Fin 128) (q : Fin 512) :
    k1_pay6 v13 v15 (ix2 d q)
      = (k1_pay4 v13 v15 (ix2 (rowP d) q) + k1_pay3 v13 v15 (ix2 (rowM d) q)) * Ideal.ofBits .f32 0x3A800000#32 := by
  have e3 : extractStridedSlice S128x512 ![0, 0] (k1_pay4 v13 v15) slices_S256x512_o0_0_S128x512 (ix2 d q) = k1_pay4 v13 v15 (ix2 (rowP d) q) :=
    extractStridedSlice_apply _ _ _ _ _ fun a => match a with
      | ⟨0, _⟩ => (Nat.zero_add _).symm
      | ⟨1, _⟩ => (Nat.zero_add _).symm
  have e4 : extractStridedSlice S128x512 ![128, 0] (k1_pay3 v13 v15) slices_S256x512_o128_0_S128x512 (ix2 d q) = k1_pay3 v13 v15 (ix2 (rowM d) q) :=
    extractStridedSlice_apply _ _ _ _ _ fun a => match a with
      | ⟨0, _⟩ => rfl
      | ⟨1, _⟩ => (Nat.zero_add _).symm
  rw [← e3, ← e4]
  rfl

/-- The next state's columns: the first 128 rows are the first matrix's, -/
theorem pay9_apply_P (v13 : Vec Ideal S1x1024x10000 .fp8e4m3) (v15 : Vec Ideal S256x10000 .bf16) (v21 : Vec Ideal S128x512 .f32) (d : Fin 128) (q : Fin 512) :
    k1_pay9 v13 v15 v21 (ix2 (rowP d) q) = k1_pay5 v13 v15 v21 (ix2 d q) := by
  unfold k1_pay9
  rw [shapeCast_self]
  exact concatenate_pair_apply_left (t := S256x512) (s₁ := S128x512) (s₂ := S128x512) 0 _ _ concatenates_S128x512_S128x512_S256x512_d0 _ rfl (ix2 d q) fun b => match b with
    | ⟨0, _⟩ => rfl
    | ⟨1, _⟩ => rfl

/-- the last 128 the second's. -/
theorem pay9_apply_M (v13 : Vec Ideal S1x1024x10000 .fp8e4m3) (v15 : Vec Ideal S256x10000 .bf16) (v21 : Vec Ideal S128x512 .f32) (d : Fin 128) (q : Fin 512) :
    k1_pay9 v13 v15 v21 (ix2 (rowM d) q) = k1_pay6 v13 v15 (ix2 d q) := by
  unfold k1_pay9
  rw [shapeCast_self]
  exact concatenate_pair_apply_right (t := S256x512) (s₁ := S128x512) (s₂ := S128x512) 0 _ _ concatenates_S128x512_S128x512_S256x512_d0 _ rfl rfl (ix2 d q)
    (fun b hb => match b, hb with
      | ⟨0, _⟩, h => absurd rfl h
      | ⟨1, _⟩, _ => rfl) (show d.val + 128 = 128 + d.val by omega)

theorem pay7_apply (v13 : Vec Ideal S1x1024x10000 .fp8e4m3) (v15 : Vec Ideal S256x10000 .bf16) (v21 : Vec Ideal S128x512 .f32) (d : Fin 128) (q : Fin 512) :
    k1_pay7 v13 v15 v21 (ix3 (0 : Fin 1) d q) = k1_pay5 v13 v15 v21 (ix2 d q) := by
  unfold k1_pay7
  refine (shapeCast_addUnit_apply ![128, 512] _ _ _).trans (congrArg _ (funext fun a => Fin.ext ?_))
  match a with
  | ⟨0, _⟩ => rfl
  | ⟨1, _⟩ => rfl

theorem pay8_apply (v13 : Vec Ideal S1x1024x10000 .fp8e4m3) (v15 : Vec Ideal S256x10000 .bf16) (d : Fin 128) (q : Fin 512) :
    k1_pay8 v13 v15 (ix3 (0 : Fin 1) d q) = k1_pay6 v13 v15 (ix2 d q) := by
  unfold k1_pay8
  refine (shapeCast_addUnit_apply ![128, 512] _ _ _).trans (congrArg _ (funext fun a => Fin.ext ?_))
  match a with
  | ⟨0, _⟩ => rfl
  | ⟨1, _⟩ => rfl

/-! ## A step -/

/-- A column of the first 10000. -/
abbrev colN (n : Fin 10000) : Fin 10240 := ⟨n.val, by omega⟩

theorem srcL_apply (T : Vec Ideal S256x10240 .bf16) (r : Fin 256) (n : Fin 10000) : srcL T (ix2 r n) = T (ix2 r (colN n)) := by
  refine congrArg T (funext fun a => Fin.ext ?_)
  match a with
  | ⟨0, _⟩ => show 0 + 1 * r.val = r.val; omega
  | ⟨1, _⟩ => show 0 + 1 * n.val = n.val; omega

theorem txL_apply (i : ℕ) (hi : i < 20) (TX : Vec Ideal S128x10240 .f32) (d : Fin 128) (q : Fin 512) (n : Fin 10000) (hn : n.val = 512 * i + q.val) :
    txL i hi TX (ix2 d q) = TX (ix2 d (colN n)) := by
  refine congrArg TX (funext fun a => Fin.ext ?_)
  match a with
  | ⟨0, _⟩ => show 0 + 1 * d.val = d.val; omega
  | ⟨1, _⟩ => show 512 * i + 1 * q.val = n.val; omega

/-- The eight-bit array holds the two square matrices, row by row, scaled. -/
def Scaled (x : Vec Ideal S20x1024x10000 .fp8e4m3) (A B : S10000x10000.Idx → EReal) : Prop :=
  ∀ (i : ℕ) (hi : i < 20) (q : Fin 512) (n k : Fin 10000), n.val = 512 * i + q.val →
    blkA x i hi (ix3 (0 : Fin 1) (⟨q.val, by omega⟩ : Fin 1024) k) = A (ix2 n k) * ((1024 : ℝ) : EReal)
      ∧ blkA x i hi (ix3 (0 : Fin 1) (⟨512 + q.val, by omega⟩ : Fin 1024) k) = B (ix2 n k) * ((1024 : ℝ) : EReal)

/-- The state holds the pair of matrices, transposed. -/
def Holds (T : Vec Ideal S256x10240 .bf16) (P M : S10000x128.Idx → EReal) : Prop :=
  ∀ (d : Fin 128) (n : Fin 10000), T (ix2 (rowP d) (colN n)) = P (ix2 n d) ∧ T (ix2 (rowM d) (colN n)) = M (ix2 n d)

variable {x : Vec Ideal S20x1024x10000 .fp8e4m3} {A B : S10000x10000.Idx → EReal} {T : Vec Ideal S256x10240 .bf16} {P M C : S10000x128.Idx → EReal}
  {TX : Vec Ideal S128x10240 .f32}

/-- The first matrix's entry after a step. -/
theorem pay5_step (hx : Scaled x A B) (hT : Holds T P M) (hC : ∀ (d : Fin 128) (n : Fin 10000), TX (ix2 d (colN n)) = C (ix2 n d))
    (i : ℕ) (hi : i < 20) (q : Fin 512) (n : Fin 10000) (hn : n.val = 512 * i + q.val) (d : Fin 128) :
    k1_pay5 (blkA x i hi) (srcL T) (txL i hi TX) (ix2 d q)
      = ((∑ k : Fin 10000, A (ix2 n k) * P (ix2 k d)) + ∑ k : Fin 10000, B (ix2 n k) * M (ix2 k d)) + C (ix2 n d) := by
  have e3 : k1_pay3 (blkA x i hi) (srcL T) (ix2 (rowP d) q) = (∑ k : Fin 10000, A (ix2 n k) * P (ix2 k d)) * ((1024 : ℝ) : EReal) := by
    rw [pay3_apply, ← sum_scaled]
    exact Finset.sum_congr rfl fun k _ => by rw [srcL_apply, (hT d k).1, (hx i hi q n k hn).1]
  have e4 : k1_pay4 (blkA x i hi) (srcL T) (ix2 (rowM d) q) = (∑ k : Fin 10000, B (ix2 n k) * M (ix2 k d)) * ((1024 : ℝ) : EReal) := by
    rw [pay4_apply, ← sum_scaled]
    exact Finset.sum_congr rfl fun k _ => by rw [srcL_apply, (hT d k).2, (hx i hi q n k hn).2]
  rw [pay5_apply, e3, e4, scale_down, unscale, txL_apply i hi TX d q n hn, hC]

/-- The second matrix's. -/
theorem pay6_step (hx : Scaled x A B) (hT : Holds T P M)
    (i : ℕ) (hi : i < 20) (q : Fin 512) (n : Fin 10000) (hn : n.val = 512 * i + q.val) (d : Fin 128) :
    k1_pay6 (blkA x i hi) (srcL T) (ix2 d q)
      = (∑ k : Fin 10000, B (ix2 n k) * P (ix2 k d)) + ∑ k : Fin 10000, A (ix2 n k) * M (ix2 k d) := by
  have e4 : k1_pay4 (blkA x i hi) (srcL T) (ix2 (rowP d) q) = (∑ k : Fin 10000, B (ix2 n k) * P (ix2 k d)) * ((1024 : ℝ) : EReal) := by
    rw [pay4_apply, ← sum_scaled]
    exact Finset.sum_congr rfl fun k _ => by rw [srcL_apply, (hT d k).1, (hx i hi q n k hn).2]
  have e3 : k1_pay3 (blkA x i hi) (srcL T) (ix2 (rowM d) q) = (∑ k : Fin 10000, A (ix2 n k) * M (ix2 k d)) * ((1024 : ℝ) : EReal) := by
    rw [pay3_apply, ← sum_scaled]
    exact Finset.sum_congr rfl fun k _ => by rw [srcL_apply, (hT d k).2, (hx i hi q n k hn).1]
  rw [pay6_apply, e3, e4, scale_down, unscale]

end Cert.KernelIdeal.Diff
end
-- ==== Proof.DiffArrays.lean ====
/- What the second region leaves in its two output arrays: block by block, what the last step computes from the state before it. -/
module

public import proofs.«01_k».proof.Proof.DiffRegion

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

variable (V : (c : Dev nD) → Valuation τ sig (Elt F))

/-- The place of an output element within its block. -/
def outIdx (j : S20x128x512.Idx) : S1x128x512.Idx := fun a => match a with
  | ⟨0, _⟩ => (⟨0, by decide⟩ : Fin 1)
  | ⟨1, _⟩ => (⟨(j 1).val, (j 1).isLt⟩ : Fin 128)
  | ⟨2, _⟩ => (⟨(j 2).val, (j 2).isLt⟩ : Fin 512)

/-- The first output: its block `i` is the last step's block `i`. -/
def outP (c : Dev nD) : S20x128x512.Idx → Elt F .f32 := fun j =>
  k1_pay7 (blkA (V c main_v16) (j 0).val (j 0).isLt) (srcL (STV V c 9)) (txL (j 0).val (j 0).isLt (V c main_v11)) (outIdx j)

/-- The second output likewise. -/
def outM (c : Dev nD) : S20x128x512.Idx → Elt F .f32 := fun j =>
  k1_pay8 (blkA (V c main_v16) (j 0).val (j 0).isLt) (srcL (STV V c 9)) (outIdx j)

theorem fl3 : ∀ t : Fin cfg1.N, (cfg1.win 3).flush t = true ↔ 180 ≤ t.val := by decide +kernel
theorem fl4 : ∀ t : Fin cfg1.N, (cfg1.win 4).flush t = true ↔ 180 ≤ t.val := by decide +kernel
theorem tr1_3 : ∀ t : Fin cfg1.N, cc1_transform_3 (cfg1.grid.coords t) = ![if t.val / 20 = 9 then t.val % 20 else 0, 0, 0] := by decide +kernel
theorem tr1_4 : ∀ t : Fin cfg1.N, cc1_transform_4 (cfg1.grid.coords t) = ![if t.val / 20 = 9 then t.val % 20 else 0, 0, 0] := by decide +kernel

/-- A block's element in its array. -/
def blkIdx (i : ℕ) (hi : i < 20) (y : S1x128x512.Idx) : S20x128x512.Idx := fun a => match a with
  | ⟨0, _⟩ => (⟨i, hi⟩ : Fin 20)
  | ⟨1, _⟩ => (⟨(y 1).val, (y 1).isLt⟩ : Fin 128)
  | ⟨2, _⟩ => (⟨(y 2).val, (y 2).isLt⟩ : Fin 512)

theorem emb3 (t : Fin cfg1.N) (ht : 180 ≤ t.val) (y : S1x128x512.Idx) :
    (win1_3.blk t).view.emb y = blkIdx (t.val % 20) (Nat.mod_lt _ (by decide)) y := funext fun a => Fin.ext (by
  have hc := tr1_3 t
  have hN : t.val < 200 := t.isLt
  have h9 : t.val / 20 = 9 := by omega
  rw [if_pos h9] at hc
  match a with
  | ⟨0, _⟩ =>
    show cc1_transform_3 (cfg1.grid.coords t) 0 * 1 + 1 * (y 0).val = t.val % 20
    have : (y 0).val < 1 := (y 0).isLt
    rw [hc]; show t.val % 20 * 1 + 1 * (y 0).val = _; omega
  | ⟨1, _⟩ =>
    show cc1_transform_3 (cfg1.grid.coords t) 1 * 128 + 1 * (y 1).val = (y 1).val
    rw [hc]; show 0 * 128 + 1 * (y 1).val = _; omega
  | ⟨2, _⟩ =>
    show cc1_transform_3 (cfg1.grid.coords t) 2 * 512 + 1 * (y 2).val = (y 2).val
    rw [hc]; show 0 * 512 + 1 * (y 2).val = _; omega)

theorem emb4 (t : Fin cfg1.N) (ht : 180 ≤ t.val) (y : S1x128x512.Idx) :
    (win1_4.blk t).view.emb y = blkIdx (t.val % 20) (Nat.mod_lt _ (by decide)) y := funext fun a => Fin.ext (by
  have hc := tr1_4 t
  have hN : t.val < 200 := t.isLt
  have h9 : t.val / 20 = 9 := by omega
  rw [if_pos h9] at hc
  match a with
  | ⟨0, _⟩ =>
    show cc1_transform_4 (cfg1.grid.coords t) 0 * 1 + 1 * (y 0).val = t.val % 20
    have : (y 0).val < 1 := (y 0).isLt
    rw [hc]; show t.val % 20 * 1 + 1 * (y 0).val = _; omega
  | ⟨1, _⟩ =>
    show cc1_transform_4 (cfg1.grid.coords t) 1 * 128 + 1 * (y 1).val = (y 1).val
    rw [hc]; show 0 * 128 + 1 * (y 1).val = _; omega
  | ⟨2, _⟩ =>
    show cc1_transform_4 (cfg1.grid.coords t) 2 * 512 + 1 * (y 2).val = (y 2).val
    rw [hc]; show 0 * 512 + 1 * (y 2).val = _; omega)

theorem outIdx_blkIdx (i : ℕ) (hi : i < 20) (y : S1x128x512.Idx) : outIdx (blkIdx i hi y) = y := funext fun a => Fin.ext (by
  match a with
  | ⟨0, _⟩ => have : (y 0).val < 1 := (y 0).isLt; show 0 = (y 0).val; omega
  | ⟨1, _⟩ => rfl
  | ⟨2, _⟩ => rfl)

theorem blkIdx_outIdx (j : S20x128x512.Idx) : blkIdx (j 0).val (j 0).isLt (outIdx j) = j := funext fun a => Fin.ext (by
  match a with
  | ⟨0, _⟩ => rfl
  | ⟨1, _⟩ => rfl
  | ⟨2, _⟩ => rfl)

/-- What a view places somewhere, it covers. -/
theorem mem_of_emb {sp : Space} {s : Shape} {e : EltTy} (v : View sig .tc sp s e) {y : s.Idx} {j} (h : v.emb y = j) : j ∈ v.set := h ▸ v.emb_mem_set y

/-- The point that writes block `i` last. -/
def lastPt (i : ℕ) (hi : i < 20) : Fin cfg1.N := ⟨180 + i, show 180 + i < 200 by omega⟩

theorem arr3 (c : Dev nD) : (dat V c).arrAt 3 cfg1.N = outP V c := by
  refine (dat V c).arrAt_eq_of_cover 3 (outP V c) (fun t hf => ?_) fun j => ⟨lastPt (j 0).val (j 0).isLt, (fl3 _).mpr (Nat.le_add_right _ _), ?_⟩
  · have ht := (fl3 t).mp hf
    have hN : t.val < 200 := t.isLt
    have h9 : t.val / 20 = 9 := by omega
    refine funext fun y => ?_
    rw [View.read_apply]
    show aft V c 3 t y = outP V c ((win1_3.blk t).view.emb y)
    rw [emb3 t ht y]
    show k1_pay7 (bA V c t) (srcL (STV V c (t.val / 20))) (bX V c t) y
      = k1_pay7 (blkA (V c main_v16) (t.val % 20) _) (srcL (STV V c 9)) (txL (t.val % 20) _ (V c main_v11)) (outIdx (blkIdx (t.val % 20) _ y))
    rw [outIdx_blkIdx, h9]
  · have e : (win1_3.blk (lastPt (j 0).val (j 0).isLt)).view.emb (outIdx j) = j := by
      rw [emb3 _ (Nat.le_add_right _ _)]
      refine Eq.trans ?_ (blkIdx_outIdx j)
      have h : (lastPt (j 0).val (j 0).isLt).val % 20 = (j 0).val := by
        have : (j 0).val < 20 := (j 0).isLt
        show (180 + (j 0).val) % 20 = _
        omega
      congr 1
    exact mem_of_emb (win1_3.blk (lastPt (j 0).val (j 0).isLt)).view e

theorem arr4 (c : Dev nD) : (dat V c).arrAt 4 cfg1.N = outM V c := by
  refine (dat V c).arrAt_eq_of_cover 4 (outM V c) (fun t hf => ?_) fun j => ⟨lastPt (j 0).val (j 0).isLt, (fl4 _).mpr (Nat.le_add_right _ _), ?_⟩
  · have ht := (fl4 t).mp hf
    have hN : t.val < 200 := t.isLt
    have h9 : t.val / 20 = 9 := by omega
    refine funext fun y => ?_
    rw [View.read_apply]
    show aft V c 4 t y = outM V c ((win1_4.blk t).view.emb y)
    rw [emb4 t ht y]
    show k1_pay8 (bA V c t) (srcL (STV V c (t.val / 20))) y
      = k1_pay8 (blkA (V c main_v16) (t.val % 20) _) (srcL (STV V c 9)) (outIdx (blkIdx (t.val % 20) _ y))
    rw [outIdx_blkIdx, h9]
  · have e : (win1_4.blk (lastPt (j 0).val (j 0).isLt)).view.emb (outIdx j) = j := by
      rw [emb4 _ (Nat.le_add_right _ _)]
      refine Eq.trans ?_ (blkIdx_outIdx j)
      have h : (lastPt (j 0).val (j 0).isLt).val % 20 = (j 0).val := by
        have : (j 0).val < 20 := (j 0).isLt
        show (180 + (j 0).val) % 20 = _
        omega
      congr 1
    exact mem_of_emb (win1_4.blk (lastPt (j 0).val (j 0).isLt)).view e

end Cert.KernelIdeal.Diff
end
-- ==== Proof.RefOps.lean ====
/- The reference's operations as lists: the opening that makes the random matrix and scales the features, then the ten layers. -/
module

public import proofs.«01_k».proof.Proof.Gen.ReferenceIdeal
public import Idealize.ShloMosaic.Lib.StableHlo.Run
public import Idealize.ShloMosaic.Lib.Pipeline.Regions

@[expose] public section

set_option maxRecDepth 16384

noncomputable section

namespace Cert.ReferenceIdeal.Run

open Cert.ReferenceIdeal Cert.ReferenceIdeal.Gen
open Idealize.ShloMosaic Idealize.ShloMosaic.TcCoe
open Idealize.SL.Sem

variable {F : FTy → Type} [FloatOps F]

/-- What seeds the random matrix. -/
abbrev seedOps : List (HloOp τ sig (Elt F)) :=
  [ StableHlo.nullary main_c (constantI S_ 32 1#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0xBF800000#32),
    StableHlo.nullary main_cst_2 (constant S_ .f32 0x3F800000#32) ]

set_option maxHeartbeats 4000000 in
/-- The random matrix. -/
abbrev randOps : List (HloOp τ sig (Elt F)) :=
  ( StableHlo.TRef.unary (.of main_cst : StableHlo.TRef sig ⟨S_, .f32⟩) (.of main_call0_v0 : StableHlo.TRef sig ⟨S_, .f32⟩) id
  :: StableHlo.TRef.unary (.of main_cst_2 : StableHlo.TRef sig ⟨S_, .f32⟩) (.of main_call0_v1 : StableHlo.TRef sig ⟨S_, .f32⟩) id
  :: StableHlo.TRef.unary (.of main_call0_v0 : StableHlo.TRef sig ⟨S_, .f32⟩) (.of main_call0_v2 : StableHlo.TRef sig ⟨S1x1, .f32⟩) (broadcastInDim S1x1 ![] bcast_S_S1x1)
  :: StableHlo.TRef.unary (.of main_call0_v1 : StableHlo.TRef sig ⟨S_, .f32⟩) (.of main_call0_v3 : StableHlo.TRef sig ⟨S1x1, .f32⟩) (broadcastInDim S1x1 ![] bcast_S_S1x1)
  :: StableHlo.TRef.unary (.of main_v6 : StableHlo.TRef sig ⟨S2, .i32⟩) (.of main_call0_v4 : StableHlo.TRef sig ⟨S1, .i32⟩) (extractStridedSlice S1 ![0] · slices_S2_S1_0)
  :: StableHlo.TRef.reshape (.of main_call0_v4 : StableHlo.TRef sig ⟨S1, .i32⟩) (.of main_call0_v5 : StableHlo.TRef sig ⟨S_, .i32⟩) (rfl : (.i32 : EltTy) = .i32) shapeCasts_S1_S_
  :: StableHlo.TRef.unary (.of main_v6 : StableHlo.TRef sig ⟨S2, .i32⟩) (.of main_call0_v6 : StableHlo.TRef sig ⟨S1, .i32⟩) (extractStridedSlice S1 ![1] · slices_S2_S1_1)
  :: StableHlo.TRef.reshape (.of main_call0_v6 : StableHlo.TRef sig ⟨S1, .i32⟩) (.of main_call0_v7 : StableHlo.TRef sig ⟨S_, .i32⟩) (rfl : (.i32 : EltTy) = .i32) shapeCasts_S1_S_
  :: StableHlo.TRef.nullary (.of main_call0_v8 : StableHlo.TRef sig ⟨S10000x128, .i64⟩) (iotaInDim S10000x128 64 0)
  :: StableHlo.TRef.nullary (.of main_call0_v9 : StableHlo.TRef sig ⟨S10000x128, .i64⟩) (iotaInDim S10000x128 64 1)
  :: StableHlo.TRef.nullary (.of main_call0_c : StableHlo.TRef sig ⟨S_, .i64⟩) (constantI S_ 64 128#64)
  :: StableHlo.TRef.unary (.of main_call0_c : StableHlo.TRef sig ⟨S_, .i64⟩) (.of main_call0_v10 : StableHlo.TRef sig ⟨S10000x128, .i64⟩) (broadcastInDim S10000x128 ![] bcast_S_S10000x128)
  :: StableHlo.TRef.binary (.of main_call0_v10 : StableHlo.TRef sig ⟨S10000x128, .i64⟩) (.of main_call0_v8 : StableHlo.TRef sig ⟨S10000x128, .i64⟩) (.of main_call0_v11 : StableHlo.TRef sig ⟨S10000x128, .i64⟩) muli
  :: StableHlo.TRef.nullary (.of main_call0_c_0 : StableHlo.TRef sig ⟨S_, .i64⟩) (constantI S_ 64 1#64)
  :: StableHlo.TRef.unary (.of main_call0_c_0 : StableHlo.TRef sig ⟨S_, .i64⟩) (.of main_call0_v12 : StableHlo.TRef sig ⟨S10000x128, .i64⟩) (broadcastInDim S10000x128 ![] bcast_S_S10000x128)
  :: StableHlo.TRef.binary (.of main_call0_v12 : StableHlo.TRef sig ⟨S10000x128, .i64⟩) (.of main_call0_v9 : StableHlo.TRef sig ⟨S10000x128, .i64⟩) (.of main_call0_v13 : StableHlo.TRef sig ⟨S10000x128, .i64⟩) muli
  :: StableHlo.TRef.binary (.of main_call0_v11 : StableHlo.TRef sig ⟨S10000x128, .i64⟩) (.of main_call0_v13 : StableHlo.TRef sig ⟨S10000x128, .i64⟩) (.of main_call0_v14 : StableHlo.TRef sig ⟨S10000x128, .i64⟩) addi
  :: StableHlo.TRef.nullary (.of main_call0_c_1 : StableHlo.TRef sig ⟨S_, .i64⟩) (constantI S_ 64 32#64)
  :: StableHlo.TRef.unary (.of main_call0_c_1 : StableHlo.TRef sig ⟨S_, .i64⟩) (.of main_call0_v15 : StableHlo.TRef sig ⟨S10000x128, .i64⟩) (broadcastInDim S10000x128 ![] bcast_S_S10000x128)
  :: StableHlo.TRef.binary (.of main_call0_v14 : StableHlo.TRef sig ⟨S10000x128, .i64⟩) (.of main_call0_v15 : StableHlo.TRef sig ⟨S10000x128, .i64⟩) (.of main_call0_v16 : StableHlo.TRef sig ⟨S10000x128, .i64⟩) Host.shrui
  :: StableHlo.TRef.unary (.of main_call0_v14 : StableHlo.TRef sig ⟨S10000x128, .i64⟩) (.of main_call0_v17 : StableHlo.TRef sig ⟨S10000x128, .i32⟩) (trunci 32 · natLt_32_64)
  :: StableHlo.TRef.unary (.of main_call0_v16 : StableHlo.TRef sig ⟨S10000x128, .i64⟩) (.of main_call0_v18 : StableHlo.TRef sig ⟨S10000x128, .i32⟩) (trunci 32 · natLt_32_64)
  :: StableHlo.TRef.binary (.of main_call0_v5 : StableHlo.TRef sig ⟨S_, .i32⟩) (.of main_call0_v7 : StableHlo.TRef sig ⟨S_, .i32⟩) (.of main_call0_call0_v0 : StableHlo.TRef sig ⟨S_, .i32⟩) xori
  :: StableHlo.TRef.nullary (.of main_call0_call0_c : StableHlo.TRef sig ⟨S_, .i32⟩) (constantI S_ 32 466688986#32)
  :: StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i32⟩) xori
  :: StableHlo.TRef.unary (.of main_call0_v5 : StableHlo.TRef sig ⟨S_, .i32⟩) (.of main_call0_call0_v2 : StableHlo.TRef sig ⟨S10000x128, .i32⟩) (broadcastInDim S10000x128 ![] bcast_S_S10000x128)
  :: StableHlo.TRef.binary (.of main_call0_v18 : StableHlo.TRef sig ⟨S10000x128, .i32⟩) (.of main_call0_call0_v2 : StableHlo.TRef sig ⟨S10000x128, .i32⟩) (.of main_call0_call0_v3 : StableHlo.TRef sig ⟨S10000x128, .i32⟩) addi
  :: StableHlo.TRef.unary (.of main_call0_v7 : StableHlo.TRef sig ⟨S_, .i32⟩) (.of main_call0_call0_v4 : StableHlo.TRef sig ⟨S10000x128, .i32⟩) (broadcastInDim S10000x128 ![] bcast_S_S10000x128)
  :: StableHlo.TRef.binary (.of main_call0_v17 : StableHlo.TRef sig ⟨S10000x128, .i32⟩) (.of main_call0_call0_v4 : StableHlo.TRef sig ⟨S10000x128, .i32⟩) (.of main_call0_call0_v5 : StableHlo.TRef sig ⟨S10000x128, .i32⟩) addi
  :: StableHlo.TRef.binary (.of main_call0_call0_v3 : StableHlo.TRef sig ⟨S10000x128, .i32⟩) (.of main_call0_call0_v5 : StableHlo.TRef sig ⟨S10000x128, .i32⟩) (.of main_call0_call0_v6 : StableHlo.TRef sig ⟨S10000x128, .i32⟩) addi
  :: StableHlo.TRef.nullary (.of main_call0_call0_c_0 : StableHlo.TRef sig ⟨S_, .i32⟩) (constantI S_ 32 13#32)
  :: StableHlo.TRef.unary (.of main_call0_call0_c_0 : StableHlo.TRef sig ⟨S_, .i32⟩) (.of main_call0_call0_v7 : StableHlo.TRef sig ⟨S10000x128, .i32⟩) (broadcastInDim S10000x128 ![] bcast_S_S10000x128)
  :: StableHlo.TRef.binary (.of main_call0_call0_v5 : StableHlo.TRef sig ⟨S10000x128, .i32⟩) (.of main_call0_call0_v7 : StableHlo.TRef sig ⟨S10000x128, .i32⟩) (.of main_call0_call0_v8 : StableHlo.TRef sig ⟨S10000x128, .i32⟩) Host.shli
  :: StableHlo.TRef.nullary (.of main_call0_call0_c_1 : StableHlo.TRef sig ⟨S_, .i32⟩) (constantI S_ 32 19#32)
  :: StableHlo.TRef.unary (.of main_call0_call0_c_1 : StableHlo.TRef sig ⟨S_, .i32⟩) (.of main_call0_call0_v9 : StableHlo.TRef sig ⟨S10000x128, .i32⟩) (broadcastInDim S10000x128 ![] bcast_S_S10000x128)
  :: StableHlo.TRef.binary (.of main_call0_call0_v5 : StableHlo.TRef sig ⟨S10000x128, .i32⟩) (.of main_call0_call0_v9 : StableHlo.TRef sig ⟨S10000x128, .i32⟩) (.of main_call0_call0_v10 : StableHlo.TRef sig ⟨S10000x128, .i32⟩) Host.shrui
  :: StableHlo.TRef.binary (.of main_call0_call0_v8 : StableHlo.TRef sig ⟨S10000x128, .i32⟩) (.of main_call0_call0_v10 : StableHlo.TRef sig ⟨S10000x128, .i32⟩) (.of main_call0_call0_v11 : StableHlo.TRef sig ⟨S10000x128, .i32⟩) ori
  :: StableHlo.TRef.binary (.of main_call0_call0_v6 : StableHlo.TRef sig ⟨S10000x128, .i32⟩) (.of main_call0_call0_v11 : StableHlo.TRef sig ⟨S10000x128, .i32⟩) (.of main_call0_call0_v12 : StableHlo.TRef sig ⟨S10000x128, .i32⟩) xori
  :: StableHlo.TRef.binary (.of main_call0_call0_v6 : StableHlo.TRef sig ⟨S10000x128, .i32⟩) (.of main_call0_call0_v12 : StableHlo.TRef sig ⟨S10000x128, .i32⟩) (.of main_call0_call0_v13 : StableHlo.TRef sig ⟨S10000x128, .i32⟩) addi
  :: StableHlo.TRef.nullary (.of main_call0_call0_c_2 : StableHlo.TRef sig ⟨S_, .i32⟩) (constantI S_ 32 15#32)
  :: StableHlo.TRef.unary (.of main_call0_call0_c_2 : StableHlo.TRef sig ⟨S_, .i32⟩) (.of main_call0_call0_v14 : StableHlo.TRef sig ⟨S10000x128, .i32⟩) (broadcastInDim S10000x128 ![] bcast_S_S10000x128)
  :: StableHlo.TRef.binary (.of main_call0_call0_v12 : StableHlo.TRef sig ⟨S10000x128, .i32⟩) (.of main_call0_call0_v14 : StableHlo.TRef sig ⟨S10000x128, .i32⟩) (.of main_call0_call0_v15 : StableHlo.TRef sig ⟨S10000x128, .i32⟩) Host.shli
  :: StableHlo.TRef.nullary (.of main_call0_call0_c_3 : StableHlo.TRef sig ⟨S_, .i32⟩) (constantI S_ 32 17#32)
  :: StableHlo.TRef.unary (.of main_call0_call0_c_3 : StableHlo.TRef sig ⟨S_, .i32⟩) (.of main_call0_call0_v16 : StableHlo.TRef sig ⟨S10000x128, .i32⟩) (broadcastInDim S10000x128 ![] bcast_S_S10000x128)
  :: StableHlo.TRef.binary (.of main_call0_call0_v12 : StableHlo.TRef sig ⟨S10000x128, .i32⟩) (.of main_call0_call0_v16 : StableHlo.TRef sig ⟨S10000x128, .i32⟩) (.of main_call0_call0_v17 : StableHlo.TRef sig ⟨S10000x128, .i32⟩) Host.shrui
  :: StableHlo.TRef.binary (.of main_call0_call0_v15 : StableHlo.TRef sig ⟨S10000x128, .i32⟩) (.of main_call0_call0_v17 : StableHlo.TRef sig ⟨S10000x128, .i32⟩) (.of main_call0_call0_v18 : StableHlo.TRef sig ⟨S10000x128, .i32⟩) ori
  :: StableHlo.TRef.binary (.of main_call0_call0_v13 : StableHlo.TRef sig ⟨S10000x128, .i32⟩) (.of main_call0_call0_v18 : StableHlo.TRef sig ⟨S10000x128, .i32⟩) (.of main_call0_call0_v19 : StableHlo.TRef sig ⟨S10000x128, .i32⟩) xori
  :: StableHlo.TRef.binary (.of main_call0_call0_v13 : StableHlo.TRef sig ⟨S10000x128, .i32⟩) (.of main_call0_call0_v19 : StableHlo.TRef sig ⟨S10000x128, .i32⟩) (.of main_call0_call0_v20 : StableHlo.TRef sig ⟨S10000x128, .i32⟩) addi
  :: StableHlo.TRef.nullary (.of main_call0_call0_c_4 : StableHlo.TRef sig ⟨S_, .i32⟩) (constantI S_ 32 26#32)
  :: StableHlo.TRef.unary (.of main_call0_call0_c_4 : StableHlo.TRef sig ⟨S_, .i32⟩) (.of main_call0_call0_v21 : StableHlo.TRef sig ⟨S10000x128, .i32⟩) (broadcastInDim S10000x128 ![] bcast_S_S10000x128)
  :: StableHlo.TRef.binary (.of main_call0_call0_v19 : StableHlo.TRef sig ⟨S10000x128, .i32⟩) (.of main_call0_call0_v21 : StableHlo.TRef sig ⟨S10000x128, .i32⟩) (.of main_call0_call0_v22 : StableHlo.TRef sig ⟨S10000x128, .i32⟩) Host.shli
  :: StableHlo.TRef.nullary (.of main_call0_call0_c_5 : StableHlo.TRef sig ⟨S_, .i32⟩) (constantI S_ 32 6#32)
  :: StableHlo.TRef.unary (.of main_call0_call0_c_5 : StableHlo.TRef sig ⟨S_, .i32⟩) (.of main_call0_call0_v23 : StableHlo.TRef sig ⟨S10000x128, .i32⟩) (broadcastInDim S10000x128 ![] bcast_S_S10000x128)
  :: StableHlo.TRef.binary (.of main_call0_call0_v19 : StableHlo.TRef sig ⟨S10000x128, .i32⟩) (.of main_call0_call0_v23 : StableHlo.TRef sig ⟨S10000x128, .i32⟩) (.of main_call0_call0_v24 : StableHlo.TRef sig ⟨S10000x128, .i32⟩) Host.shrui
  :: StableHlo.TRef.binary (.of main_call0_call0_v22 : StableHlo.TRef sig ⟨S10000x128, .i32⟩) (.of main_call0_call0_v24 : StableHlo.TRef sig ⟨S10000x128, .i32⟩) (.of main_call0_call0_v25 : StableHlo.TRef sig ⟨S10000x128, .i32⟩) ori
  :: StableHlo.TRef.binary (.of main_call0_call0_v20 : StableHlo.TRef sig ⟨S10000x128, .i32⟩) (.of main_call0_call0_v25 : StableHlo.TRef sig ⟨S10000x128, .i32⟩) (.of main_call0_call0_v26 : StableHlo.TRef sig ⟨S10000x128, .i32⟩) xori
  :: StableHlo.TRef.binary (.of main_call0_call0_v20 : StableHlo.TRef sig ⟨S10000x128, .i32⟩) (.of main_call0_call0_v26 : StableHlo.TRef sig ⟨S10000x128, .i32⟩) (.of main_call0_call0_v27 : StableHlo.TRef sig ⟨S10000x128, .i32⟩) addi
  :: StableHlo.TRef.nullary (.of main_call0_call0_c_6 : StableHlo.TRef sig ⟨S_, .i32⟩) (constantI S_ 32 6#32)
  :: StableHlo.TRef.unary (.of main_call0_call0_c_6 : StableHlo.TRef sig ⟨S_, .i32⟩) (.of main_call0_call0_v28 : StableHlo.TRef sig ⟨S10000x128, .i32⟩) (broadcastInDim S10000x128 ![] bcast_S_S10000x128)
  :: StableHlo.TRef.binary (.of main_call0_call0_v26 : StableHlo.TRef sig ⟨S10000x128, .i32⟩) (.of main_call0_call0_v28 : StableHlo.TRef sig ⟨S10000x128, .i32⟩) (.of main_call0_call0_v29 : StableHlo.TRef sig ⟨S10000x128, .i32⟩) Host.shli
  :: StableHlo.TRef.nullary (.of main_call0_call0_c_7 : StableHlo.TRef sig ⟨S_, .i32⟩) (constantI S_ 32 26#32)
  :: StableHlo.TRef.unary (.of main_call0_call0_c_7 : StableHlo.TRef sig ⟨S_, .i32⟩) (.of main_call0_call0_v30 : StableHlo.TRef sig ⟨S10000x128, .i32⟩) (broadcastInDim S10000x128 ![] bcast_S_S10000x128)
  :: StableHlo.TRef.binary (.of main_call0_call0_v26 : StableHlo.TRef sig ⟨S10000x128, .i32⟩) (.of main_call0_call0_v30 : StableHlo.TRef sig ⟨S10000x128, .i32⟩) (.of main_call0_call0_v31 : StableHlo.TRef sig ⟨S10000x128, .i32⟩) Host.shrui
  :: StableHlo.TRef.binary (.of main_call0_call0_v29 : StableHlo.TRef sig ⟨S10000x128, .i32⟩) (.of main_call0_call0_v31 : StableHlo.TRef sig ⟨S10000x128, .i32⟩) (.of main_call0_call0_v32 : StableHlo.TRef sig ⟨S10000x128, .i32⟩) ori
  :: StableHlo.TRef.binary (.of main_call0_call0_v27 : StableHlo.TRef sig ⟨S10000x128, .i32⟩) (.of main_call0_call0_v32 : StableHlo.TRef sig ⟨S10000x128, .i32⟩) (.of main_call0_call0_v33 : StableHlo.TRef sig ⟨S10000x128, .i32⟩) xori
  :: StableHlo.TRef.unary (.of main_call0_v7 : StableHlo.TRef sig ⟨S_, .i32⟩) (.of main_call0_call0_v34 : StableHlo.TRef sig ⟨S10000x128, .i32⟩) (broadcastInDim S10000x128 ![] bcast_S_S10000x128)
  :: StableHlo.TRef.binary (.of main_call0_call0_v27 : StableHlo.TRef sig ⟨S10000x128, .i32⟩) (.of main_call0_call0_v34 : StableHlo.TRef sig ⟨S10000x128, .i32⟩) (.of main_call0_call0_v35 : StableHlo.TRef sig ⟨S10000x128, .i32⟩) addi
  :: StableHlo.TRef.unary (.of main_call0_call0_v1 : StableHlo.TRef sig ⟨S_, .i32⟩) (.of main_call0_call0_v36 : StableHlo.TRef sig ⟨S10000x128, .i32⟩) (broadcastInDim S10000x128 ![] bcast_S_S10000x128)
  :: StableHlo.TRef.binary (.of main_call0_call0_v33 : StableHlo.TRef sig ⟨S10000x128, .i32⟩) (.of main_call0_call0_v36 : StableHlo.TRef sig ⟨S10000x128, .i32⟩) (.of main_call0_call0_v37 : StableHlo.TRef sig ⟨S10000x128, .i32⟩) addi
  :: StableHlo.TRef.nullary (.of main_call0_call0_c_8 : StableHlo.TRef sig ⟨S_, .i32⟩) (constantI S_ 32 1#32)
  :: StableHlo.TRef.unary (.of main_call0_call0_c_8 : StableHlo.TRef sig ⟨S_, .i32⟩) (.of main_call0_call0_v38 : StableHlo.TRef sig ⟨S10000x128, .i32⟩) (broadcastInDim S10000x128 ![] bcast_S_S10000x128)
  :: StableHlo.TRef.binary (.of main_call0_call0_v37 : StableHlo.TRef sig ⟨S10000x128, .i32⟩) (.of main_call0_call0_v38 : StableHlo.TRef sig ⟨S10000x128, .i32⟩) (.of main_call0_call0_v39 : StableHlo.TRef sig ⟨S10000x128, .i32⟩) addi
  :: StableHlo.TRef.binary (.of main_call0_call0_v35 : StableHlo.TRef sig ⟨S10000x128, .i32⟩) (.of main_call0_call0_v39 : StableHlo.TRef sig ⟨S10000x128, .i32⟩) (.of main_call0_call0_v40 : StableHlo.TRef sig ⟨S10000x128, .i32⟩) addi
  :: StableHlo.TRef.nullary (.of main_call0_call0_c_9 : StableHlo.TRef sig ⟨S_, .i32⟩) (constantI S_ 32 17#32)
  :: StableHlo.TRef.unary (.of main_call0_call0_c_9 : StableHlo.TRef sig ⟨S_, .i32⟩) (.of main_call0_call0_v41 : StableHlo.TRef sig ⟨S10000x128, .i32⟩) (broadcastInDim S10000x128 ![] bcast_S_S10000x128)
  :: StableHlo.TRef.binary (.of main_call0_call0_v39 : StableHlo.TRef sig ⟨S10000x128, .i32⟩) (.of main_call0_call0_v41 : StableHlo.TRef sig ⟨S10000x128, .i32⟩) (.of main_call0_call0_v42 : StableHlo.TRef sig ⟨S10000x128, .i32⟩) Host.shli
  :: StableHlo.TRef.nullary (.of main_call0_call0_c_10 : StableHlo.TRef sig ⟨S_, .i32⟩) (constantI S_ 32 15#32)
  :: StableHlo.TRef.unary (.of main_call0_call0_c_10 : StableHlo.TRef sig ⟨S_, .i32⟩) (.of main_call0_call0_v43 : StableHlo.TRef sig ⟨S10000x128, .i32⟩) (broadcastInDim S10000x128 ![] bcast_S_S10000x128)
  :: StableHlo.TRef.binary (.of main_call0_call0_v39 : StableHlo.TRef sig ⟨S10000x128, .i32⟩) (.of main_call0_call0_v43 : StableHlo.TRef sig ⟨S10000x128, .i32⟩) (.of main_call0_call0_v44 : StableHlo.TRef sig ⟨S10000x128, .i32⟩) Host.shrui
  :: StableHlo.TRef.binary (.of main_call0_call0_v42 : StableHlo.TRef sig ⟨S10000x128, .i32⟩) (.of main_call0_call0_v44 : StableHlo.TRef sig ⟨S10000x128, .i32⟩) (.of main_call0_call0_v45 : StableHlo.TRef sig ⟨S10000x128, .i32⟩) ori
  :: StableHlo.TRef.binary (.of main_call0_call0_v40 : StableHlo.TRef sig ⟨S10000x128, .i32⟩) (.of main_call0_call0_v45 : StableHlo.TRef sig ⟨S10000x128, .i32⟩) (.of main_call0_call0_v46 : StableHlo.TRef sig ⟨S10000x128, .i32⟩) xori
  :: StableHlo.TRef.binary (.of main_call0_call0_v40 : StableHlo.TRef sig ⟨S10000x128, .i32⟩) (.of main_call0_call0_v46 : StableHlo.TRef sig ⟨S10000x128, .i32⟩) (.of main_call0_call0_v47 : StableHlo.TRef sig ⟨S10000x128, .i32⟩) addi
  :: StableHlo.TRef.nullary (.of main_call0_call0_c_11 : StableHlo.TRef sig ⟨S_, .i32⟩) (constantI S_ 32 29#32)
  :: StableHlo.TRef.unary (.of main_call0_call0_c_11 : StableHlo.TRef sig ⟨S_, .i32⟩) (.of main_call0_call0_v48 : StableHlo.TRef sig ⟨S10000x128, .i32⟩) (broadcastInDim S10000x128 ![] bcast_S_S10000x128)
  :: StableHlo.TRef.binary (.of main_call0_call0_v46 : StableHlo.TRef sig ⟨S10000x128, .i32⟩) (.of main_call0_call0_v48 : StableHlo.TRef sig ⟨S10000x128, .i32⟩) (.of main_call0_call0_v49 : StableHlo.TRef sig ⟨S10000x128, .i32⟩) Host.shli
  :: StableHlo.TRef.nullary (.of main_call0_call0_c_12 : StableHlo.TRef sig ⟨S_, .i32⟩) (constantI S_ 32 3#32)
  :: StableHlo.TRef.unary (.of main_call0_call0_c_12 : StableHlo.TRef sig ⟨S_, .i32⟩) (.of main_call0_call0_v50 : StableHlo.TRef sig ⟨S10000x128, .i32⟩) (broadcastInDim S10000x128 ![] bcast_S_S10000x128)
  :: StableHlo.TRef.binary (.of main_call0_call0_v46 : StableHlo.TRef sig ⟨S10000x128, .i32⟩) (.of main_call0_call0_v50 : StableHlo.TRef sig ⟨S10000x128, .i32⟩) (.of main_call0_call0_v51 : StableHlo.TRef sig ⟨S10000x128, .i32⟩) Host.shrui
  :: StableHlo.TRef.binary (.of main_call0_call0_v49 : StableHlo.TRef sig ⟨S10000x128, .i32⟩) (.of main_call0_call0_v51 : StableHlo.TRef sig ⟨S10000x128, .i32⟩) (.of main_call0_call0_v52 : StableHlo.TRef sig ⟨S10000x128, .i32⟩) ori
  :: StableHlo.TRef.binary (.of main_call0_call0_v47 : StableHlo.TRef sig ⟨S10000x128, .i32⟩) (.of main_call0_call0_v52 : StableHlo.TRef sig ⟨S10000x128, .i32⟩) (.of main_call0_call0_v53 : StableHlo.TRef sig ⟨S10000x128, .i32⟩) xori
  :: StableHlo.TRef.binary (.of main_call0_call0_v47 : StableHlo.TRef sig ⟨S10000x128, .i32⟩) (.of main_call0_call0_v53 : StableHlo.TRef sig ⟨S10000x128, .i32⟩) (.of main_call0_call0_v54 : StableHlo.TRef sig ⟨S10000x128, .i32⟩) addi
  :: StableHlo.TRef.nullary (.of main_call0_call0_c_13 : StableHlo.TRef sig ⟨S_, .i32⟩) (constantI S_ 32 16#32)
  :: StableHlo.TRef.unary (.of main_call0_call0_c_13 : StableHlo.TRef sig ⟨S_, .i32⟩) (.of main_call0_call0_v55 : StableHlo.TRef sig ⟨S10000x128, .i32⟩) (broadcastInDim S10000x128 ![] bcast_S_S10000x128)
  :: StableHlo.TRef.binary (.of main_call0_call0_v53 : StableHlo.TRef sig ⟨S10000x128, .i32⟩) (.of main_call0_call0_v55 : StableHlo.TRef sig ⟨S10000x128, .i32⟩) (.of main_call0_call0_v56 : StableHlo.TRef sig ⟨S10000x128, .i32⟩) Host.shli
  :: StableHlo.TRef.nullary (.of main_call0_call0_c_14 : StableHlo.TRef sig ⟨S_, .i32⟩) (constantI S_ 32 16#32)
  :: StableHlo.TRef.unary (.of main_call0_call0_c_14 : StableHlo.TRef sig ⟨S_, .i32⟩) (.of main_call0_call0_v57 : StableHlo.TRef sig ⟨S10000x128, .i32⟩) (broadcastInDim S10000x128 ![] bcast_S_S10000x128)
  :: StableHlo.TRef.binary (.of main_call0_call0_v53 : StableHlo.TRef sig ⟨S10000x128, .i32⟩) (.of main_call0_call0_v57 : StableHlo.TRef sig ⟨S10000x128, .i32⟩) (.of main_call0_call0_v58 : StableHlo.TRef sig ⟨S10000x128, .i32⟩) Host.shrui
  :: StableHlo.TRef.binary (.of main_call0_call0_v56 : StableHlo.TRef sig ⟨S10000x128, .i32⟩) (.of main_call0_call0_v58 : StableHlo.TRef sig ⟨S10000x128, .i32⟩) (.of main_call0_call0_v59 : StableHlo.TRef sig ⟨S10000x128, .i32⟩) ori
  :: StableHlo.TRef.binary (.of main_call0_call0_v54 : StableHlo.TRef sig ⟨S10000x128, .i32⟩) (.of main_call0_call0_v59 : StableHlo.TRef sig ⟨S10000x128, .i32⟩) (.of main_call0_call0_v60 : StableHlo.TRef sig ⟨S10000x128, .i32⟩) xori
  :: StableHlo.TRef.binary (.of main_call0_call0_v54 : StableHlo.TRef sig ⟨S10000x128, .i32⟩) (.of main_call0_call0_v60 : StableHlo.TRef sig ⟨S10000x128, .i32⟩) (.of main_call0_call0_v61 : StableHlo.TRef sig ⟨S10000x128, .i32⟩) addi
  :: StableHlo.TRef.nullary (.of main_call0_call0_c_15 : StableHlo.TRef sig ⟨S_, .i32⟩) (constantI S_ 32 24#32)
  :: StableHlo.TRef.unary (.of main_call0_call0_c_15 : StableHlo.TRef sig ⟨S_, .i32⟩) (.of main_call0_call0_v62 : StableHlo.TRef sig ⟨S10000x128, .i32⟩) (broadcastInDim S10000x128 ![] bcast_S_S10000x128)
  :: StableHlo.TRef.binary (.of main_call0_call0_v60 : StableHlo.TRef sig ⟨S10000x128, .i32⟩) (.of main_call0_call0_v62 : StableHlo.TRef sig ⟨S10000x128, .i32⟩) (.of main_call0_call0_v63 : StableHlo.TRef sig ⟨S10000x128, .i32⟩) Host.shli
  :: StableHlo.TRef.nullary (.of main_call0_call0_c_16 : StableHlo.TRef sig ⟨S_, .i32⟩) (constantI S_ 32 8#32)
  :: StableHlo.TRef.unary (.of main_call0_call0_c_16 : StableHlo.TRef sig ⟨S_, .i32⟩) (.of main_call0_call0_v64 : StableHlo.TRef sig ⟨S10000x128, .i32⟩) (broadcastInDim S10000x128 ![] bcast_S_S10000x128)
  :: StableHlo.TRef.binary (.of main_call0_call0_v60 : StableHlo.TRef sig ⟨S10000x128, .i32⟩) (.of main_call0_call0_v64 : StableHlo.TRef sig ⟨S10000x128, .i32⟩) (.of main_call0_call0_v65 : StableHlo.TRef sig ⟨S10000x128, .i32⟩) Host.shrui
  :: StableHlo.TRef.binary (.of main_call0_call0_v63 : StableHlo.TRef sig ⟨S10000x128, .i32⟩) (.of main_call0_call0_v65 : StableHlo.TRef sig ⟨S10000x128, .i32⟩) (.of main_call0_call0_v66 : StableHlo.TRef sig ⟨S10000x128, .i32⟩) ori
  :: StableHlo.TRef.binary (.of main_call0_call0_v61 : StableHlo.TRef sig ⟨S10000x128, .i32⟩) (.of main_call0_call0_v66 : StableHlo.TRef sig ⟨S10000x128, .i32⟩) (.of main_call0_call0_v67 : StableHlo.TRef sig ⟨S10000x128, .i32⟩) xori
  :: StableHlo.TRef.unary (.of main_call0_call0_v1 : StableHlo.TRef sig ⟨S_, .i32⟩) (.of main_call0_call0_v68 : StableHlo.TRef sig ⟨S10000x128, .i32⟩) (broadcastInDim S10000x128 ![] bcast_S_S10000x128)
  :: StableHlo.TRef.binary (.of main_call0_call0_v61 : StableHlo.TRef sig ⟨S10000x128, .i32⟩) (.of main_call0_call0_v68 : StableHlo.TRef sig ⟨S10000x128, .i32⟩) (.of main_call0_call0_v69 : StableHlo.TRef sig ⟨S10000x128, .i32⟩) addi
  :: StableHlo.TRef.unary (.of main_call0_v5 : StableHlo.TRef sig ⟨S_, .i32⟩) (.of main_call0_call0_v70 : StableHlo.TRef sig ⟨S10000x128, .i32⟩) (broadcastInDim S10000x128 ![] bcast_S_S10000x128)
  :: StableHlo.TRef.binary (.of main_call0_call0_v67 : StableHlo.TRef sig ⟨S10000x128, .i32⟩) (.of main_call0_call0_v70 : StableHlo.TRef sig ⟨S10000x128, .i32⟩) (.of main_call0_call0_v71 : StableHlo.TRef sig ⟨S10000x128, .i32⟩) addi
  :: StableHlo.TRef.nullary (.of main_call0_call0_c_17 : StableHlo.TRef sig ⟨S_, .i32⟩) (constantI S_ 32 2#32)
  :: StableHlo.TRef.unary (.of main_call0_call0_c_17 : StableHlo.TRef sig ⟨S_, .i32⟩) (.of main_call0_call0_v72 : StableHlo.TRef sig ⟨S10000x128, .i32⟩) (broadcastInDim S10000x128 ![] bcast_S_S10000x128)
  :: StableHlo.TRef.binary (.of main_call0_call0_v71 : StableHlo.TRef sig ⟨S10000x128, .i32⟩) (.of main_call0_call0_v72 : StableHlo.TRef sig ⟨S10000x128, .i32⟩) (.of main_call0_call0_v73 : StableHlo.TRef sig ⟨S10000x128, .i32⟩) addi
  :: StableHlo.TRef.binary (.of main_call0_call0_v69 : StableHlo.TRef sig ⟨S10000x128, .i32⟩) (.of main_call0_call0_v73 : StableHlo.TRef sig ⟨S10000x128, .i32⟩) (.of main_call0_call0_v74 : StableHlo.TRef sig ⟨S10000x128, .i32⟩) addi
  :: StableHlo.TRef.nullary (.of main_call0_call0_c_18 : StableHlo.TRef sig ⟨S_, .i32⟩) (constantI S_ 32 13#32)
  :: StableHlo.TRef.unary (.of main_call0_call0_c_18 : StableHlo.TRef sig ⟨S_, .i32⟩) (.of main_call0_call0_v75 : StableHlo.TRef sig ⟨S10000x128, .i32⟩) (broadcastInDim S10000x128 ![] bcast_S_S10000x128)
  :: StableHlo.TRef.binary (.of main_call0_call0_v73 : StableHlo.TRef sig ⟨S10000x128, .i32⟩) (.of main_call0_call0_v75 : StableHlo.TRef sig ⟨S10000x128, .i32⟩) (.of main_call0_call0_v76 : StableHlo.TRef sig ⟨S10000x128, .i32⟩) Host.shli
  :: StableHlo.TRef.nullary (.of main_call0_call0_c_19 : StableHlo.TRef sig ⟨S_, .i32⟩) (constantI S_ 32 19#32)
  :: StableHlo.TRef.unary (.of main_call0_call0_c_19 : StableHlo.TRef sig ⟨S_, .i32⟩) (.of main_call0_call0_v77 : StableHlo.TRef sig ⟨S10000x128, .i32⟩) (broadcastInDim S10000x128 ![] bcast_S_S10000x128)
  :: StableHlo.TRef.binary (.of main_call0_call0_v73 : StableHlo.TRef sig ⟨S10000x128, .i32⟩) (.of main_call0_call0_v77 : StableHlo.TRef sig ⟨S10000x128, .i32⟩) (.of main_call0_call0_v78 : StableHlo.TRef sig ⟨S10000x128, .i32⟩) Host.shrui
  :: StableHlo.TRef.binary (.of main_call0_call0_v76 : StableHlo.TRef sig ⟨S10000x128, .i32⟩) (.of main_call0_call0_v78 : StableHlo.TRef sig ⟨S10000x128, .i32⟩) (.of main_call0_call0_v79 : StableHlo.TRef sig ⟨S10000x128, .i32⟩) ori
  :: StableHlo.TRef.binary (.of main_call0_call0_v74 : StableHlo.TRef sig ⟨S10000x128, .i32⟩) (.of main_call0_call0_v79 : StableHlo.TRef sig ⟨S10000x128, .i32⟩) (.of main_call0_call0_v80 : StableHlo.TRef sig ⟨S10000x128, .i32⟩) xori
  :: StableHlo.TRef.binary (.of main_call0_call0_v74 : StableHlo.TRef sig ⟨S10000x128, .i32⟩) (.of main_call0_call0_v80 : StableHlo.TRef sig ⟨S10000x128, .i32⟩) (.of main_call0_call0_v81 : StableHlo.TRef sig ⟨S10000x128, .i32⟩) addi
  :: StableHlo.TRef.nullary (.of main_call0_call0_c_20 : StableHlo.TRef sig ⟨S_, .i32⟩) (constantI S_ 32 15#32)
  :: StableHlo.TRef.unary (.of main_call0_call0_c_20 : StableHlo.TRef sig ⟨S_, .i32⟩) (.of main_call0_call0_v82 : StableHlo.TRef sig ⟨S10000x128, .i32⟩) (broadcastInDim S10000x128 ![] bcast_S_S10000x128)
  :: StableHlo.TRef.binary (.of main_call0_call0_v80 : StableHlo.TRef sig ⟨S10000x128, .i32⟩) (.of main_call0_call0_v82 : StableHlo.TRef sig ⟨S10000x128, .i32⟩) (.of main_call0_call0_v83 : StableHlo.TRef sig ⟨S10000x128, .i32⟩) Host.shli
  :: StableHlo.TRef.nullary (.of main_call0_call0_c_21 : StableHlo.TRef sig ⟨S_, .i32⟩) (constantI S_ 32 17#32)
  :: StableHlo.TRef.unary (.of main_call0_call0_c_21 : StableHlo.TRef sig ⟨S_, .i32⟩) (.of main_call0_call0_v84 : StableHlo.TRef sig ⟨S10000x128, .i32⟩) (broadcastInDim S10000x128 ![] bcast_S_S10000x128)
  :: StableHlo.TRef.binary (.of main_call0_call0_v80 : StableHlo.TRef sig ⟨S10000x128, .i32⟩) (.of main_call0_call0_v84 : StableHlo.TRef sig ⟨S10000x128, .i32⟩) (.of main_call0_call0_v85 : StableHlo.TRef sig ⟨S10000x128, .i32⟩) Host.shrui
  :: StableHlo.TRef.binary (.of main_call0_call0_v83 : StableHlo.TRef sig ⟨S10000x128, .i32⟩) (.of main_call0_call0_v85 : StableHlo.TRef sig ⟨S10000x128, .i32⟩) (.of main_call0_call0_v86 : StableHlo.TRef sig ⟨S10000x128, .i32⟩) ori
  :: StableHlo.TRef.binary (.of main_call0_call0_v81 : StableHlo.TRef sig ⟨S10000x128, .i32⟩) (.of main_call0_call0_v86 : StableHlo.TRef sig ⟨S10000x128, .i32⟩) (.of main_call0_call0_v87 : StableHlo.TRef sig ⟨S10000x128, .i32⟩) xori
  :: StableHlo.TRef.binary (.of main_call0_call0_v81 : StableHlo.TRef sig ⟨S10000x128, .i32⟩) (.of main_call0_call0_v87 : StableHlo.TRef sig ⟨S10000x128, .i32⟩) (.of main_call0_call0_v88 : StableHlo.TRef sig ⟨S10000x128, .i32⟩) addi
  :: StableHlo.TRef.nullary (.of main_call0_call0_c_22 : StableHlo.TRef sig ⟨S_, .i32⟩) (constantI S_ 32 26#32)
  :: StableHlo.TRef.unary (.of main_call0_call0_c_22 : StableHlo.TRef sig ⟨S_, .i32⟩) (.of main_call0_call0_v89 : StableHlo.TRef sig ⟨S10000x128, .i32⟩) (broadcastInDim S10000x128 ![] bcast_S_S10000x128)
  :: StableHlo.TRef.binary (.of main_call0_call0_v87 : StableHlo.TRef sig ⟨S10000x128, .i32⟩) (.of main_call0_call0_v89 : StableHlo.TRef sig ⟨S10000x128, .i32⟩) (.of main_call0_call0_v90 : StableHlo.TRef sig ⟨S10000x128, .i32⟩) Host.shli
  :: StableHlo.TRef.nullary (.of main_call0_call0_c_23 : StableHlo.TRef sig ⟨S_, .i32⟩) (constantI S_ 32 6#32)
  :: StableHlo.TRef.unary (.of main_call0_call0_c_23 : StableHlo.TRef sig ⟨S_, .i32⟩) (.of main_call0_call0_v91 : StableHlo.TRef sig ⟨S10000x128, .i32⟩) (broadcastInDim S10000x128 ![] bcast_S_S10000x128)
  :: StableHlo.TRef.binary (.of main_call0_call0_v87 : StableHlo.TRef sig ⟨S10000x128, .i32⟩) (.of main_call0_call0_v91 : StableHlo.TRef sig ⟨S10000x128, .i32⟩) (.of main_call0_call0_v92 : StableHlo.TRef sig ⟨S10000x128, .i32⟩) Host.shrui
  :: StableHlo.TRef.binary (.of main_call0_call0_v90 : StableHlo.TRef sig ⟨S10000x128, .i32⟩) (.of main_call0_call0_v92 : StableHlo.TRef sig ⟨S10000x128, .i32⟩) (.of main_call0_call0_v93 : StableHlo.TRef sig ⟨S10000x128, .i32⟩) ori
  :: StableHlo.TRef.binary (.of main_call0_call0_v88 : StableHlo.TRef sig ⟨S10000x128, .i32⟩) (.of main_call0_call0_v93 : StableHlo.TRef sig ⟨S10000x128, .i32⟩) (.of main_call0_call0_v94 : StableHlo.TRef sig ⟨S10000x128, .i32⟩) xori
  :: StableHlo.TRef.binary (.of main_call0_call0_v88 : StableHlo.TRef sig ⟨S10000x128, .i32⟩) (.of main_call0_call0_v94 : StableHlo.TRef sig ⟨S10000x128, .i32⟩) (.of main_call0_call0_v95 : StableHlo.TRef sig ⟨S10000x128, .i32⟩) addi
  :: StableHlo.TRef.nullary (.of main_call0_call0_c_24 : StableHlo.TRef sig ⟨S_, .i32⟩) (constantI S_ 32 6#32)
  :: StableHlo.TRef.unary (.of main_call0_call0_c_24 : StableHlo.TRef sig ⟨S_, .i32⟩) (.of main_call0_call0_v96 : StableHlo.TRef sig ⟨S10000x128, .i32⟩) (broadcastInDim S10000x128 ![] bcast_S_S10000x128)
  :: StableHlo.TRef.binary (.of main_call0_call0_v94 : StableHlo.TRef sig ⟨S10000x128, .i32⟩) (.of main_call0_call0_v96 : StableHlo.TRef sig ⟨S10000x128, .i32⟩) (.of main_call0_call0_v97 : StableHlo.TRef sig ⟨S10000x128, .i32⟩) Host.shli
  :: StableHlo.TRef.nullary (.of main_call0_call0_c_25 : StableHlo.TRef sig ⟨S_, .i32⟩) (constantI S_ 32 26#32)
  :: StableHlo.TRef.unary (.of main_call0_call0_c_25 : StableHlo.TRef sig ⟨S_, .i32⟩) (.of main_call0_call0_v98 : StableHlo.TRef sig ⟨S10000x128, .i32⟩) (broadcastInDim S10000x128 ![] bcast_S_S10000x128)
  :: StableHlo.TRef.binary (.of main_call0_call0_v94 : StableHlo.TRef sig ⟨S10000x128, .i32⟩) (.of main_call0_call0_v98 : StableHlo.TRef sig ⟨S10000x128, .i32⟩) (.of main_call0_call0_v99 : StableHlo.TRef sig ⟨S10000x128, .i32⟩) Host.shrui
  :: StableHlo.TRef.binary (.of main_call0_call0_v97 : StableHlo.TRef sig ⟨S10000x128, .i32⟩) (.of main_call0_call0_v99 : StableHlo.TRef sig ⟨S10000x128, .i32⟩) (.of main_call0_call0_v100 : StableHlo.TRef sig ⟨S10000x128, .i32⟩) ori
  :: StableHlo.TRef.binary (.of main_call0_call0_v95 : StableHlo.TRef sig ⟨S10000x128, .i32⟩) (.of main_call0_call0_v100 : StableHlo.TRef sig ⟨S10000x128, .i32⟩) (.of main_call0_call0_v101 : StableHlo.TRef sig ⟨S10000x128, .i32⟩) xori
  :: StableHlo.TRef.unary (.of main_call0_v5 : StableHlo.TRef sig ⟨S_, .i32⟩) (.of main_call0_call0_v102 : StableHlo.TRef sig ⟨S10000x128, .i32⟩) (broadcastInDim S10000x128 ![] bcast_S_S10000x128)
  :: StableHlo.TRef.binary (.of main_call0_call0_v95 : StableHlo.TRef sig ⟨S10000x128, .i32⟩) (.of main_call0_call0_v102 : StableHlo.TRef sig ⟨S10000x128, .i32⟩) (.of main_call0_call0_v103 : StableHlo.TRef sig ⟨S10000x128, .i32⟩) addi
  :: StableHlo.TRef.unary (.of main_call0_v7 : StableHlo.TRef sig ⟨S_, .i32⟩) (.of main_call0_call0_v104 : StableHlo.TRef sig ⟨S10000x128, .i32⟩) (broadcastInDim S10000x128 ![] bcast_S_S10000x128)
  :: StableHlo.TRef.binary (.of main_call0_call0_v101 : StableHlo.TRef sig ⟨S10000x128, .i32⟩) (.of main_call0_call0_v104 : StableHlo.TRef sig ⟨S10000x128, .i32⟩) (.of main_call0_call0_v105 : StableHlo.TRef sig ⟨S10000x128, .i32⟩) addi
  :: StableHlo.TRef.nullary (.of main_call0_call0_c_26 : StableHlo.TRef sig ⟨S_, .i32⟩) (constantI S_ 32 3#32)
  :: StableHlo.TRef.unary (.of main_call0_call0_c_26 : StableHlo.TRef sig ⟨S_, .i32⟩) (.of main_call0_call0_v106 : StableHlo.TRef sig ⟨S10000x128, .i32⟩) (broadcastInDim S10000x128 ![] bcast_S_S10000x128)
  :: StableHlo.TRef.binary (.of main_call0_call0_v105 : StableHlo.TRef sig ⟨S10000x128, .i32⟩) (.of main_call0_call0_v106 : StableHlo.TRef sig ⟨S10000x128, .i32⟩) (.of main_call0_call0_v107 : StableHlo.TRef sig ⟨S10000x128, .i32⟩) addi
  :: StableHlo.TRef.binary (.of main_call0_call0_v103 : StableHlo.TRef sig ⟨S10000x128, .i32⟩) (.of main_call0_call0_v107 : StableHlo.TRef sig ⟨S10000x128, .i32⟩) (.of main_call0_call0_v108 : StableHlo.TRef sig ⟨S10000x128, .i32⟩) addi
  :: StableHlo.TRef.nullary (.of main_call0_call0_c_27 : StableHlo.TRef sig ⟨S_, .i32⟩) (constantI S_ 32 17#32)
  :: StableHlo.TRef.unary (.of main_call0_call0_c_27 : StableHlo.TRef sig ⟨S_, .i32⟩) (.of main_call0_call0_v109 : StableHlo.TRef sig ⟨S10000x128, .i32⟩) (broadcastInDim S10000x128 ![] bcast_S_S10000x128)
  :: StableHlo.TRef.binary (.of main_call0_call0_v107 : StableHlo.TRef sig ⟨S10000x128, .i32⟩) (.of main_call0_call0_v109 : StableHlo.TRef sig ⟨S10000x128, .i32⟩) (.of main_call0_call0_v110 : StableHlo.TRef sig ⟨S10000x128, .i32⟩) Host.shli
  :: StableHlo.TRef.nullary (.of main_call0_call0_c_28 : StableHlo.TRef sig ⟨S_, .i32⟩) (constantI S_ 32 15#32)
  :: StableHlo.TRef.unary (.of main_call0_call0_c_28 : StableHlo.TRef sig ⟨S_, .i32⟩) (.of main_call0_call0_v111 : StableHlo.TRef sig ⟨S10000x128, .i32⟩) (broadcastInDim S10000x128 ![] bcast_S_S10000x128)
  :: StableHlo.TRef.binary (.of main_call0_call0_v107 : StableHlo.TRef sig ⟨S10000x128, .i32⟩) (.of main_call0_call0_v111 : StableHlo.TRef sig ⟨S10000x128, .i32⟩) (.of main_call0_call0_v112 : StableHlo.TRef sig ⟨S10000x128, .i32⟩) Host.shrui
  :: StableHlo.TRef.binary (.of main_call0_call0_v110 : StableHlo.TRef sig ⟨S10000x128, .i32⟩) (.of main_call0_call0_v112 : StableHlo.TRef sig ⟨S10000x128, .i32⟩) (.of main_call0_call0_v113 : StableHlo.TRef sig ⟨S10000x128, .i32⟩) ori
  :: StableHlo.TRef.binary (.of main_call0_call0_v108 : StableHlo.TRef sig ⟨S10000x128, .i32⟩) (.of main_call0_call0_v113 : StableHlo.TRef sig ⟨S10000x128, .i32⟩) (.of main_call0_call0_v114 : StableHlo.TRef sig ⟨S10000x128, .i32⟩) xori
  :: StableHlo.TRef.binary (.of main_call0_call0_v108 : StableHlo.TRef sig ⟨S10000x128, .i32⟩) (.of main_call0_call0_v114 : StableHlo.TRef sig ⟨S10000x128, .i32⟩) (.of main_call0_call0_v115 : StableHlo.TRef sig ⟨S10000x128, .i32⟩) addi
  :: StableHlo.TRef.nullary (.of main_call0_call0_c_29 : StableHlo.TRef sig ⟨S_, .i32⟩) (constantI S_ 32 29#32)
  :: StableHlo.TRef.unary (.of main_call0_call0_c_29 : StableHlo.TRef sig ⟨S_, .i32⟩) (.of main_call0_call0_v116 : StableHlo.TRef sig ⟨S10000x128, .i32⟩) (broadcastInDim S10000x128 ![] bcast_S_S10000x128)
  :: StableHlo.TRef.binary (.of main_call0_call0_v114 : StableHlo.TRef sig ⟨S10000x128, .i32⟩) (.of main_call0_call0_v116 : StableHlo.TRef sig ⟨S10000x128, .i32⟩) (.of main_call0_call0_v117 : StableHlo.TRef sig ⟨S10000x128, .i32⟩) Host.shli
  :: StableHlo.TRef.nullary (.of main_call0_call0_c_30 : StableHlo.TRef sig ⟨S_, .i32⟩) (constantI S_ 32 3#32)
  :: StableHlo.TRef.unary (.of main_call0_call0_c_30 : StableHlo.TRef sig ⟨S_, .i32⟩) (.of main_call0_call0_v118 : StableHlo.TRef sig ⟨S10000x128, .i32⟩) (broadcastInDim S10000x128 ![] bcast_S_S10000x128)
  :: StableHlo.TRef.binary (.of main_call0_call0_v114 : StableHlo.TRef sig ⟨S10000x128, .i32⟩) (.of main_call0_call0_v118 : StableHlo.TRef sig ⟨S10000x128, .i32⟩) (.of main_call0_call0_v119 : StableHlo.TRef sig ⟨S10000x128, .i32⟩) Host.shrui
  :: StableHlo.TRef.binary (.of main_call0_call0_v117 : StableHlo.TRef sig ⟨S10000x128, .i32⟩) (.of main_call0_call0_v119 : StableHlo.TRef sig ⟨S10000x128, .i32⟩) (.of main_call0_call0_v120 : StableHlo.TRef sig ⟨S10000x128, .i32⟩) ori
  :: StableHlo.TRef.binary (.of main_call0_call0_v115 : StableHlo.TRef sig ⟨S10000x128, .i32⟩) (.of main_call0_call0_v120 : StableHlo.TRef sig ⟨S10000x128, .i32⟩) (.of main_call0_call0_v121 : StableHlo.TRef sig ⟨S10000x128, .i32⟩) xori
  :: StableHlo.TRef.binary (.of main_call0_call0_v115 : StableHlo.TRef sig ⟨S10000x128, .i32⟩) (.of main_call0_call0_v121 : StableHlo.TRef sig ⟨S10000x128, .i32⟩) (.of main_call0_call0_v122 : StableHlo.TRef sig ⟨S10000x128, .i32⟩) addi
  :: StableHlo.TRef.nullary (.of main_call0_call0_c_31 : StableHlo.TRef sig ⟨S_, .i32⟩) (constantI S_ 32 16#32)
  :: StableHlo.TRef.unary (.of main_call0_call0_c_31 : StableHlo.TRef sig ⟨S_, .i32⟩) (.of main_call0_call0_v123 : StableHlo.TRef sig ⟨S10000x128, .i32⟩) (broadcastInDim S10000x128 ![] bcast_S_S10000x128)
  :: StableHlo.TRef.binary (.of main_call0_call0_v121 : StableHlo.TRef sig ⟨S10000x128, .i32⟩) (.of main_call0_call0_v123 : StableHlo.TRef sig ⟨S10000x128, .i32⟩) (.of main_call0_call0_v124 : StableHlo.TRef sig ⟨S10000x128, .i32⟩) Host.shli
  :: StableHlo.TRef.nullary (.of main_call0_call0_c_32 : StableHlo.TRef sig ⟨S_, .i32⟩) (constantI S_ 32 16#32)
  :: StableHlo.TRef.unary (.of main_call0_call0_c_32 : StableHlo.TRef sig ⟨S_, .i32⟩) (.of main_call0_call0_v125 : StableHlo.TRef sig ⟨S10000x128, .i32⟩) (broadcastInDim S10000x128 ![] bcast_S_S10000x128)
  :: StableHlo.TRef.binary (.of main_call0_call0_v121 : StableHlo.TRef sig ⟨S10000x128, .i32⟩) (.of main_call0_call0_v125 : StableHlo.TRef sig ⟨S10000x128, .i32⟩) (.of main_call0_call0_v126 : StableHlo.TRef sig ⟨S10000x128, .i32⟩) Host.shrui
  :: StableHlo.TRef.binary (.of main_call0_call0_v124 : StableHlo.TRef sig ⟨S10000x128, .i32⟩) (.of main_call0_call0_v126 : StableHlo.TRef sig ⟨S10000x128, .i32⟩) (.of main_call0_call0_v127 : StableHlo.TRef sig ⟨S10000x128, .i32⟩) ori
  :: StableHlo.TRef.binary (.of main_call0_call0_v122 : StableHlo.TRef sig ⟨S10000x128, .i32⟩) (.of main_call0_call0_v127 : StableHlo.TRef sig ⟨S10000x128, .i32⟩) (.of main_call0_call0_v128 : StableHlo.TRef sig ⟨S10000x128, .i32⟩) xori
  :: StableHlo.TRef.binary (.of main_call0_call0_v122 : StableHlo.TRef sig ⟨S10000x128, .i32⟩) (.of main_call0_call0_v128 : StableHlo.TRef sig ⟨S10000x128, .i32⟩) (.of main_call0_call0_v129 : StableHlo.TRef sig ⟨S10000x128, .i32⟩) addi
  :: StableHlo.TRef.nullary (.of main_call0_call0_c_33 : StableHlo.TRef sig ⟨S_, .i32⟩) (constantI S_ 32 24#32)
  :: StableHlo.TRef.unary (.of main_call0_call0_c_33 : StableHlo.TRef sig ⟨S_, .i32⟩) (.of main_call0_call0_v130 : StableHlo.TRef sig ⟨S10000x128, .i32⟩) (broadcastInDim S10000x128 ![] bcast_S_S10000x128)
  :: StableHlo.TRef.binary (.of main_call0_call0_v128 : StableHlo.TRef sig ⟨S10000x128, .i32⟩) (.of main_call0_call0_v130 : StableHlo.TRef sig ⟨S10000x128, .i32⟩) (.of main_call0_call0_v131 : StableHlo.TRef sig ⟨S10000x128, .i32⟩) Host.shli
  :: StableHlo.TRef.nullary (.of main_call0_call0_c_34 : StableHlo.TRef sig ⟨S_, .i32⟩) (constantI S_ 32 8#32)
  :: StableHlo.TRef.unary (.of main_call0_call0_c_34 : StableHlo.TRef sig ⟨S_, .i32⟩) (.of main_call0_call0_v132 : StableHlo.TRef sig ⟨S10000x128, .i32⟩) (broadcastInDim S10000x128 ![] bcast_S_S10000x128)
  :: StableHlo.TRef.binary (.of main_call0_call0_v128 : StableHlo.TRef sig ⟨S10000x128, .i32⟩) (.of main_call0_call0_v132 : StableHlo.TRef sig ⟨S10000x128, .i32⟩) (.of main_call0_call0_v133 : StableHlo.TRef sig ⟨S10000x128, .i32⟩) Host.shrui
  :: StableHlo.TRef.binary (.of main_call0_call0_v131 : StableHlo.TRef sig ⟨S10000x128, .i32⟩) (.of main_call0_call0_v133 : StableHlo.TRef sig ⟨S10000x128, .i32⟩) (.of main_call0_call0_v134 : StableHlo.TRef sig ⟨S10000x128, .i32⟩) ori
  :: StableHlo.TRef.binary (.of main_call0_call0_v129 : StableHlo.TRef sig ⟨S10000x128, .i32⟩) (.of main_call0_call0_v134 : StableHlo.TRef sig ⟨S10000x128, .i32⟩) (.of main_call0_call0_v135 : StableHlo.TRef sig ⟨S10000x128, .i32⟩) xori
  :: StableHlo.TRef.unary (.of main_call0_v7 : StableHlo.TRef sig ⟨S_, .i32⟩) (.of main_call0_call0_v136 : StableHlo.TRef sig ⟨S10000x128, .i32⟩) (broadcastInDim S10000x128 ![] bcast_S_S10000x128)
  :: StableHlo.TRef.binary (.of main_call0_call0_v129 : StableHlo.TRef sig ⟨S10000x128, .i32⟩) (.of main_call0_call0_v136 : StableHlo.TRef sig ⟨S10000x128, .i32⟩) (.of main_call0_call0_v137 : StableHlo.TRef sig ⟨S10000x128, .i32⟩) addi
  :: StableHlo.TRef.unary (.of main_call0_call0_v1 : StableHlo.TRef sig ⟨S_, .i32⟩) (.of main_call0_call0_v138 : StableHlo.TRef sig ⟨S10000x128, .i32⟩) (broadcastInDim S10000x128 ![] bcast_S_S10000x128)
  :: StableHlo.TRef.binary (.of main_call0_call0_v135 : StableHlo.TRef sig ⟨S10000x128, .i32⟩) (.of main_call0_call0_v138 : StableHlo.TRef sig ⟨S10000x128, .i32⟩) (.of main_call0_call0_v139 : StableHlo.TRef sig ⟨S10000x128, .i32⟩) addi
  :: StableHlo.TRef.nullary (.of main_call0_call0_c_35 : StableHlo.TRef sig ⟨S_, .i32⟩) (constantI S_ 32 4#32)
  :: StableHlo.TRef.unary (.of main_call0_call0_c_35 : StableHlo.TRef sig ⟨S_, .i32⟩) (.of main_call0_call0_v140 : StableHlo.TRef sig ⟨S10000x128, .i32⟩) (broadcastInDim S10000x128 ![] bcast_S_S10000x128)
  :: StableHlo.TRef.binary (.of main_call0_call0_v139 : StableHlo.TRef sig ⟨S10000x128, .i32⟩) (.of main_call0_call0_v140 : StableHlo.TRef sig ⟨S10000x128, .i32⟩) (.of main_call0_call0_v141 : StableHlo.TRef sig ⟨S10000x128, .i32⟩) addi
  :: StableHlo.TRef.binary (.of main_call0_call0_v137 : StableHlo.TRef sig ⟨S10000x128, .i32⟩) (.of main_call0_call0_v141 : StableHlo.TRef sig ⟨S10000x128, .i32⟩) (.of main_call0_call0_v142 : StableHlo.TRef sig ⟨S10000x128, .i32⟩) addi
  :: StableHlo.TRef.nullary (.of main_call0_call0_c_36 : StableHlo.TRef sig ⟨S_, .i32⟩) (constantI S_ 32 13#32)
  :: StableHlo.TRef.unary (.of main_call0_call0_c_36 : StableHlo.TRef sig ⟨S_, .i32⟩) (.of main_call0_call0_v143 : StableHlo.TRef sig ⟨S10000x128, .i32⟩) (broadcastInDim S10000x128 ![] bcast_S_S10000x128)
  :: StableHlo.TRef.binary (.of main_call0_call0_v141 : StableHlo.TRef sig ⟨S10000x128, .i32⟩) (.of main_call0_call0_v143 : StableHlo.TRef sig ⟨S10000x128, .i32⟩) (.of main_call0_call0_v144 : StableHlo.TRef sig ⟨S10000x128, .i32⟩) Host.shli
  :: StableHlo.TRef.nullary (.of main_call0_call0_c_37 : StableHlo.TRef sig ⟨S_, .i32⟩) (constantI S_ 32 19#32)
  :: StableHlo.TRef.unary (.of main_call0_call0_c_37 : StableHlo.TRef sig ⟨S_, .i32⟩) (.of main_call0_call0_v145 : StableHlo.TRef sig ⟨S10000x128, .i32⟩) (broadcastInDim S10000x128 ![] bcast_S_S10000x128)
  :: StableHlo.TRef.binary (.of main_call0_call0_v141 : StableHlo.TRef sig ⟨S10000x128, .i32⟩) (.of main_call0_call0_v145 : StableHlo.TRef sig ⟨S10000x128, .i32⟩) (.of main_call0_call0_v146 : StableHlo.TRef sig ⟨S10000x128, .i32⟩) Host.shrui
  :: StableHlo.TRef.binary (.of main_call0_call0_v144 : StableHlo.TRef sig ⟨S10000x128, .i32⟩) (.of main_call0_call0_v146 : StableHlo.TRef sig ⟨S10000x128, .i32⟩) (.of main_call0_call0_v147 : StableHlo.TRef sig ⟨S10000x128, .i32⟩) ori
  :: StableHlo.TRef.binary (.of main_call0_call0_v142 : StableHlo.TRef sig ⟨S10000x128, .i32⟩) (.of main_call0_call0_v147 : StableHlo.TRef sig ⟨S10000x128, .i32⟩) (.of main_call0_call0_v148 : StableHlo.TRef sig ⟨S10000x128, .i32⟩) xori
  :: StableHlo.TRef.binary (.of main_call0_call0_v142 : StableHlo.TRef sig ⟨S10000x128, .i32⟩) (.of main_call0_call0_v148 : StableHlo.TRef sig ⟨S10000x128, .i32⟩) (.of main_call0_call0_v149 : StableHlo.TRef sig ⟨S10000x128, .i32⟩) addi
  :: StableHlo.TRef.nullary (.of main_call0_call0_c_38 : StableHlo.TRef sig ⟨S_, .i32⟩) (constantI S_ 32 15#32)
  :: StableHlo.TRef.unary (.of main_call0_call0_c_38 : StableHlo.TRef sig ⟨S_, .i32⟩) (.of main_call0_call0_v150 : StableHlo.TRef sig ⟨S10000x128, .i32⟩) (broadcastInDim S10000x128 ![] bcast_S_S10000x128)
  :: StableHlo.TRef.binary (.of main_call0_call0_v148 : StableHlo.TRef sig ⟨S10000x128, .i32⟩) (.of main_call0_call0_v150 : StableHlo.TRef sig ⟨S10000x128, .i32⟩) (.of main_call0_call0_v151 : StableHlo.TRef sig ⟨S10000x128, .i32⟩) Host.shli
  :: StableHlo.TRef.nullary (.of main_call0_call0_c_39 : StableHlo.TRef sig ⟨S_, .i32⟩) (constantI S_ 32 17#32)
  :: StableHlo.TRef.unary (.of main_call0_call0_c_39 : StableHlo.TRef sig ⟨S_, .i32⟩) (.of main_call0_call0_v152 : StableHlo.TRef sig ⟨S10000x128, .i32⟩) (broadcastInDim S10000x128 ![] bcast_S_S10000x128)
  :: StableHlo.TRef.binary (.of main_call0_call0_v148 : StableHlo.TRef sig ⟨S10000x128, .i32⟩) (.of main_call0_call0_v152 : StableHlo.TRef sig ⟨S10000x128, .i32⟩) (.of main_call0_call0_v153 : StableHlo.TRef sig ⟨S10000x128, .i32⟩) Host.shrui
  :: StableHlo.TRef.binary (.of main_call0_call0_v151 : StableHlo.TRef sig ⟨S10000x128, .i32⟩) (.of main_call0_call0_v153 : StableHlo.TRef sig ⟨S10000x128, .i32⟩) (.of main_call0_call0_v154 : StableHlo.TRef sig ⟨S10000x128, .i32⟩) ori
  :: StableHlo.TRef.binary (.of main_call0_call0_v149 : StableHlo.TRef sig ⟨S10000x128, .i32⟩) (.of main_call0_call0_v154 : StableHlo.TRef sig ⟨S10000x128, .i32⟩) (.of main_call0_call0_v155 : StableHlo.TRef sig ⟨S10000x128, .i32⟩) xori
  :: StableHlo.TRef.binary (.of main_call0_call0_v149 : StableHlo.TRef sig ⟨S10000x128, .i32⟩) (.of main_call0_call0_v155 : StableHlo.TRef sig ⟨S10000x128, .i32⟩) (.of main_call0_call0_v156 : StableHlo.TRef sig ⟨S10000x128, .i32⟩) addi
  :: StableHlo.TRef.nullary (.of main_call0_call0_c_40 : StableHlo.TRef sig ⟨S_, .i32⟩) (constantI S_ 32 26#32)
  :: StableHlo.TRef.unary (.of main_call0_call0_c_40 : StableHlo.TRef sig ⟨S_, .i32⟩) (.of main_call0_call0_v157 : StableHlo.TRef sig ⟨S10000x128, .i32⟩) (broadcastInDim S10000x128 ![] bcast_S_S10000x128)
  :: StableHlo.TRef.binary (.of main_call0_call0_v155 : StableHlo.TRef sig ⟨S10000x128, .i32⟩) (.of main_call0_call0_v157 : StableHlo.TRef sig ⟨S10000x128, .i32⟩) (.of main_call0_call0_v158 : StableHlo.TRef sig ⟨S10000x128, .i32⟩) Host.shli
  :: StableHlo.TRef.nullary (.of main_call0_call0_c_41 : StableHlo.TRef sig ⟨S_, .i32⟩) (constantI S_ 32 6#32)
  :: StableHlo.TRef.unary (.of main_call0_call0_c_41 : StableHlo.TRef sig ⟨S_, .i32⟩) (.of main_call0_call0_v159 : StableHlo.TRef sig ⟨S10000x128, .i32⟩) (broadcastInDim S10000x128 ![] bcast_S_S10000x128)
  :: StableHlo.TRef.binary (.of main_call0_call0_v155 : StableHlo.TRef sig ⟨S10000x128, .i32⟩) (.of main_call0_call0_v159 : StableHlo.TRef sig ⟨S10000x128, .i32⟩) (.of main_call0_call0_v160 : StableHlo.TRef sig ⟨S10000x128, .i32⟩) Host.shrui
  :: StableHlo.TRef.binary (.of main_call0_call0_v158 : StableHlo.TRef sig ⟨S10000x128, .i32⟩) (.of main_call0_call0_v160 : StableHlo.TRef sig ⟨S10000x128, .i32⟩) (.of main_call0_call0_v161 : StableHlo.TRef sig ⟨S10000x128, .i32⟩) ori
  :: StableHlo.TRef.binary (.of main_call0_call0_v156 : StableHlo.TRef sig ⟨S10000x128, .i32⟩) (.of main_call0_call0_v161 : StableHlo.TRef sig ⟨S10000x128, .i32⟩) (.of main_call0_call0_v162 : StableHlo.TRef sig ⟨S10000x128, .i32⟩) xori
  :: StableHlo.TRef.binary (.of main_call0_call0_v156 : StableHlo.TRef sig ⟨S10000x128, .i32⟩) (.of main_call0_call0_v162 : StableHlo.TRef sig ⟨S10000x128, .i32⟩) (.of main_call0_call0_v163 : StableHlo.TRef sig ⟨S10000x128, .i32⟩) addi
  :: StableHlo.TRef.nullary (.of main_call0_call0_c_42 : StableHlo.TRef sig ⟨S_, .i32⟩) (constantI S_ 32 6#32)
  :: StableHlo.TRef.unary (.of main_call0_call0_c_42 : StableHlo.TRef sig ⟨S_, .i32⟩) (.of main_call0_call0_v164 : StableHlo.TRef sig ⟨S10000x128, .i32⟩) (broadcastInDim S10000x128 ![] bcast_S_S10000x128)
  :: StableHlo.TRef.binary (.of main_call0_call0_v162 : StableHlo.TRef sig ⟨S10000x128, .i32⟩) (.of main_call0_call0_v164 : StableHlo.TRef sig ⟨S10000x128, .i32⟩) (.of main_call0_call0_v165 : StableHlo.TRef sig ⟨S10000x128, .i32⟩) Host.shli
  :: StableHlo.TRef.nullary (.of main_call0_call0_c_43 : StableHlo.TRef sig ⟨S_, .i32⟩) (constantI S_ 32 26#32)
  :: StableHlo.TRef.unary (.of main_call0_call0_c_43 : StableHlo.TRef sig ⟨S_, .i32⟩) (.of main_call0_call0_v166 : StableHlo.TRef sig ⟨S10000x128, .i32⟩) (broadcastInDim S10000x128 ![] bcast_S_S10000x128)
  :: StableHlo.TRef.binary (.of main_call0_call0_v162 : StableHlo.TRef sig ⟨S10000x128, .i32⟩) (.of main_call0_call0_v166 : StableHlo.TRef sig ⟨S10000x128, .i32⟩) (.of main_call0_call0_v167 : StableHlo.TRef sig ⟨S10000x128, .i32⟩) Host.shrui
  :: StableHlo.TRef.binary (.of main_call0_call0_v165 : StableHlo.TRef sig ⟨S10000x128, .i32⟩) (.of main_call0_call0_v167 : StableHlo.TRef sig ⟨S10000x128, .i32⟩) (.of main_call0_call0_v168 : StableHlo.TRef sig ⟨S10000x128, .i32⟩) ori
  :: StableHlo.TRef.binary (.of main_call0_call0_v163 : StableHlo.TRef sig ⟨S10000x128, .i32⟩) (.of main_call0_call0_v168 : StableHlo.TRef sig ⟨S10000x128, .i32⟩) (.of main_call0_call0_v169 : StableHlo.TRef sig ⟨S10000x128, .i32⟩) xori
  :: StableHlo.TRef.unary (.of main_call0_call0_v1 : StableHlo.TRef sig ⟨S_, .i32⟩) (.of main_call0_call0_v170 : StableHlo.TRef sig ⟨S10000x128, .i32⟩) (broadcastInDim S10000x128 ![] bcast_S_S10000x128)
  :: StableHlo.TRef.binary (.of main_call0_call0_v163 : StableHlo.TRef sig ⟨S10000x128, .i32⟩) (.of main_call0_call0_v170 : StableHlo.TRef sig ⟨S10000x128, .i32⟩) (.of main_call0_v19_0 : StableHlo.TRef sig ⟨S10000x128, .i32⟩) addi
  :: StableHlo.TRef.unary (.of main_call0_v5 : StableHlo.TRef sig ⟨S_, .i32⟩) (.of main_call0_call0_v172 : StableHlo.TRef sig ⟨S10000x128, .i32⟩) (broadcastInDim S10000x128 ![] bcast_S_S10000x128)
  :: StableHlo.TRef.binary (.of main_call0_call0_v169 : StableHlo.TRef sig ⟨S10000x128, .i32⟩) (.of main_call0_call0_v172 : StableHlo.TRef sig ⟨S10000x128, .i32⟩) (.of main_call0_call0_v173 : StableHlo.TRef sig ⟨S10000x128, .i32⟩) addi
  :: StableHlo.TRef.nullary (.of main_call0_call0_c_44 : StableHlo.TRef sig ⟨S_, .i32⟩) (constantI S_ 32 5#32)
  :: StableHlo.TRef.unary (.of main_call0_call0_c_44 : StableHlo.TRef sig ⟨S_, .i32⟩) (.of main_call0_call0_v174 : StableHlo.TRef sig ⟨S10000x128, .i32⟩) (broadcastInDim S10000x128 ![] bcast_S_S10000x128)
  :: StableHlo.TRef.binary (.of main_call0_call0_v173 : StableHlo.TRef sig ⟨S10000x128, .i32⟩) (.of main_call0_call0_v174 : StableHlo.TRef sig ⟨S10000x128, .i32⟩) (.of main_call0_v19_1 : StableHlo.TRef sig ⟨S10000x128, .i32⟩) addi
  :: StableHlo.TRef.binary main_call0_call0.v171 main_call0_call0.v175 (.of main_call0_v20 : StableHlo.TRef sig ⟨S10000x128, .i32⟩) xori
  :: StableHlo.TRef.nullary (.of main_call0_c_2 : StableHlo.TRef sig ⟨S_, .i32⟩) (constantI S_ 32 9#32)
  :: StableHlo.TRef.unary (.of main_call0_c_2 : StableHlo.TRef sig ⟨S_, .i32⟩) (.of main_call0_v21 : StableHlo.TRef sig ⟨S10000x128, .i32⟩) (broadcastInDim S10000x128 ![] bcast_S_S10000x128)
  :: StableHlo.TRef.binary (.of main_call0_v20 : StableHlo.TRef sig ⟨S10000x128, .i32⟩) (.of main_call0_v21 : StableHlo.TRef sig ⟨S10000x128, .i32⟩) (.of main_call0_v22 : StableHlo.TRef sig ⟨S10000x128, .i32⟩) Host.shrui
  :: StableHlo.TRef.nullary (.of main_call0_c_3 : StableHlo.TRef sig ⟨S_, .i32⟩) (constantI S_ 32 1065353216#32)
  :: StableHlo.TRef.unary (.of main_call0_c_3 : StableHlo.TRef sig ⟨S_, .i32⟩) (.of main_call0_v23 : StableHlo.TRef sig ⟨S10000x128, .i32⟩) (broadcastInDim S10000x128 ![] bcast_S_S10000x128)
  :: StableHlo.TRef.binary (.of main_call0_v22 : StableHlo.TRef sig ⟨S10000x128, .i32⟩) (.of main_call0_v23 : StableHlo.TRef sig ⟨S10000x128, .i32⟩) (.of main_call0_v24 : StableHlo.TRef sig ⟨S10000x128, .i32⟩) ori
  :: StableHlo.TRef.unary (.of main_call0_v24 : StableHlo.TRef sig ⟨S10000x128, .i32⟩) (.of main_call0_v25 : StableHlo.TRef sig ⟨S10000x128, .f32⟩) (bitcastToFloat .f32)
  :: StableHlo.TRef.nullary (.of main_call0_cst : StableHlo.TRef sig ⟨S_, .f32⟩) (constant S_ .f32 0x3F800000#32)
  :: StableHlo.TRef.unary (.of main_call0_cst : StableHlo.TRef sig ⟨S_, .f32⟩) (.of main_call0_v26 : StableHlo.TRef sig ⟨S10000x128, .f32⟩) (broadcastInDim S10000x128 ![] bcast_S_S10000x128)
  :: StableHlo.TRef.binary (.of main_call0_v25 : StableHlo.TRef sig ⟨S10000x128, .f32⟩) (.of main_call0_v26 : StableHlo.TRef sig ⟨S10000x128, .f32⟩) (.of main_call0_v27 : StableHlo.TRef sig ⟨S10000x128, .f32⟩) subf
  :: StableHlo.TRef.binary (.of main_call0_v3 : StableHlo.TRef sig ⟨S1x1, .f32⟩) (.of main_call0_v2 : StableHlo.TRef sig ⟨S1x1, .f32⟩) (.of main_call0_v28 : StableHlo.TRef sig ⟨S1x1, .f32⟩) subf
  :: StableHlo.TRef.unary (.of main_call0_v28 : StableHlo.TRef sig ⟨S1x1, .f32⟩) (.of main_call0_v29 : StableHlo.TRef sig ⟨S10000x128, .f32⟩) (broadcastInDim S10000x128 ![0, 1] bcast_S1x1_S10000x128_0_1)
  :: StableHlo.TRef.binary (.of main_call0_v27 : StableHlo.TRef sig ⟨S10000x128, .f32⟩) (.of main_call0_v29 : StableHlo.TRef sig ⟨S10000x128, .f32⟩) (.of main_call0_v30 : StableHlo.TRef sig ⟨S10000x128, .f32⟩) mulf
  :: StableHlo.TRef.unary (.of main_call0_v2 : StableHlo.TRef sig ⟨S1x1, .f32⟩) (.of main_call0_v31 : StableHlo.TRef sig ⟨S10000x128, .f32⟩) (broadcastInDim S10000x128 ![0, 1] bcast_S1x1_S10000x128_0_1)
  :: StableHlo.TRef.binary (.of main_call0_v30 : StableHlo.TRef sig ⟨S10000x128, .f32⟩) (.of main_call0_v31 : StableHlo.TRef sig ⟨S10000x128, .f32⟩) (.of main_call0_v32 : StableHlo.TRef sig ⟨S10000x128, .f32⟩) addf
  :: StableHlo.TRef.unary (.of main_call0_v2 : StableHlo.TRef sig ⟨S1x1, .f32⟩) (.of main_call0_v33 : StableHlo.TRef sig ⟨S10000x128, .f32⟩) (broadcastInDim S10000x128 ![0, 1] bcast_S1x1_S10000x128_0_1)
  :: StableHlo.TRef.binary (.of main_call0_v33 : StableHlo.TRef sig ⟨S10000x128, .f32⟩) (.of main_call0_v32 : StableHlo.TRef sig ⟨S10000x128, .f32⟩) (.of main_v7 : StableHlo.TRef sig ⟨S10000x128, .f32⟩) maximumf
  :: [] )

/-- The scaled features. -/
abbrev scaleOps : List (HloOp τ sig (Elt F)) :=
  [ StableHlo.nullary main_cst_3 (constant S_ .f32 0x3E19999A#32),
    StableHlo.unary main_cst_3 main_v8 (broadcastInDim S10000x128 ![] bcast_S_S10000x128 : (⟨S_, .f32⟩ : BufTy).Contents (Elt F) → (⟨S10000x128, .f32⟩ : BufTy).Contents (Elt F)),
    StableHlo.binary main_v8 main_arg2 main_v9 (mulf : (⟨S10000x128, .f32⟩ : BufTy).Contents (Elt F) → (⟨S10000x128, .f32⟩ : BufTy).Contents (Elt F) → (⟨S10000x128, .f32⟩ : BufTy).Contents (Elt F)) ]

/-- A matrix of the features' shape. -/
abbrev TX : BufTy := ⟨S10000x128, .f32⟩

/-- The product of a square matrix and a matrix of the features' shape. -/
abbrev mm : (⟨S10000x10000, .f32⟩ : BufTy).Contents (Elt F) → (TX).Contents (Elt F) → (TX).Contents (Elt F) :=
  fun l r => Host.dotGeneral dot_S10000x10000_S10000x128_S10000x128_1_0_0_1_n_n none l r

/-- One layer: from the two matrices at `p` and `m` to the next two at `np` and `nm`. -/
abbrev layer (p m d1 d2 s np d3 d4 nm : StableHlo.TRef sig TX) : List (HloOp τ sig (Elt F)) :=
  [ StableHlo.TRef.binary (.of main_arg0) p d1 mm, StableHlo.TRef.binary (.of main_arg1) m d2 mm, StableHlo.TRef.binary d1 d2 s addf,
    StableHlo.TRef.binary s (.of main_v9) np addf, StableHlo.TRef.binary (.of main_arg1) p d3 mm, StableHlo.TRef.binary (.of main_arg0) m d4 mm,
    StableHlo.TRef.binary d3 d4 nm addf ]

/-- The ten layers. -/
abbrev layers : List (HloOp τ sig (Elt F)) :=
  layer (.of main_arg2) (.of main_v7) (.of main_v10) (.of main_v11) (.of main_v12) (.of main_v13) (.of main_v14) (.of main_v15) (.of main_v16) ++ (
  layer (.of main_v13) (.of main_v16) (.of main_v17) (.of main_v18) (.of main_v19) (.of main_v20) (.of main_v21) (.of main_v22) (.of main_v23) ++ (
  layer (.of main_v20) (.of main_v23) (.of main_v24) (.of main_v25) (.of main_v26) (.of main_v27) (.of main_v28) (.of main_v29) (.of main_v30) ++ (
  layer (.of main_v27) (.of main_v30) (.of main_v31) (.of main_v32) (.of main_v33) (.of main_v34) (.of main_v35) (.of main_v36) (.of main_v37) ++ (
  layer (.of main_v34) (.of main_v37) (.of main_v38) (.of main_v39) (.of main_v40) (.of main_v41) (.of main_v42) (.of main_v43) (.of main_v44) ++ (
  layer (.of main_v41) (.of main_v44) (.of main_v45) (.of main_v46) (.of main_v47) (.of main_v48) (.of main_v49) (.of main_v50) (.of main_v51) ++ (
  layer (.of main_v48) (.of main_v51) (.of main_v52) (.of main_v53) (.of main_v54) (.of main_v55) (.of main_v56) (.of main_v57) (.of main_v58) ++ (
  layer (.of main_v55) (.of main_v58) (.of main_v59) (.of main_v60) (.of main_v61) (.of main_v62) (.of main_v63) (.of main_v64) (.of main_v65) ++ (
  layer (.of main_v62) (.of main_v65) (.of main_v66) (.of main_v67) (.of main_v68) (.of main_v69) (.of main_v70) (.of main_v71) (.of main_v72) ++ (
  layer (.of main_v69) (.of main_v72) (.of main_v73) (.of main_v74) (.of main_v75) (.of main_v76) (.of main_v77) (.of main_v78) (.of main_v79))))))))))

/-- The reference's operations, in order. -/
abbrev ops : List (HloOp τ sig (Elt F)) := seedOps ++ (randOps ++ (scaleOps ++ layers))

/-! ## What each part writes -/

abbrev seedW : List (Ref sig .tc) := [main_c, main_c_0, main_v0, main_v1, main_v2, main_c_1, main_v3, main_v4, main_v5, main_v6, main_cst, main_cst_2]
abbrev randW : List (Ref sig .tc) := [main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1, main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30, main_call0_v31, main_call0_v32, main_call0_v33, main_v7]
abbrev scaleW : List (Ref sig .tc) := [main_cst_3, main_v8, main_v9]
abbrev layersW : List (Ref sig .tc) := [main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79]

theorem seed_writes : (seedOps : List (HloOp τ sig (Elt F))).map HloOp.writes = seedW.map fun r => {Proc.devRef (τ := τ) .tc r} := rfl
theorem rand_writes : (randOps : List (HloOp τ sig (Elt F))).map HloOp.writes = randW.map fun r => {Proc.devRef (τ := τ) .tc r} := rfl
theorem scale_writes : (scaleOps : List (HloOp τ sig (Elt F))).map HloOp.writes = scaleW.map fun r => {Proc.devRef (τ := τ) .tc r} := rfl
theorem layers_writes : (layers : List (HloOp τ sig (Elt F))).map HloOp.writes = layersW.map fun r => {Proc.devRef (τ := τ) .tc r} := rfl

/-! ## The reference is these operations, in order -/

set_option maxHeartbeats 4000000 in
theorem main_chain (c : Dev nD) : main (F := F) c = (Pipeline.chain [StableHlo.seq seedOps, StableHlo.seq randOps, StableHlo.seq scaleOps, StableHlo.seq layers]
    : Prog (TpuEff nD τ sig (Elt F) (Pipeline.Sig Λ₀ (Fin 0) fun p => (pcfgs (F := F) p).Adm) .tc) PUnit) := by
  rewrite [StableHlo.chain_seq_cons, StableHlo.chain_seq_cons, StableHlo.chain_seq_cons, StableHlo.chain_seq_cons]
  chain_rfl

theorem main_seq (c : Dev nD) : main (F := F) c = StableHlo.seq ops := by
  have e : ∀ a b d l : List (HloOp τ sig (Elt F)), (Pipeline.chain [StableHlo.seq a, StableHlo.seq b, StableHlo.seq d, StableHlo.seq l]
      : Prog (TpuEff nD τ sig (Elt F) (Pipeline.Sig Λ₀ (Fin 0) fun p => (pcfgs (F := F) p).Adm) .tc) PUnit)
      = StableHlo.seq (a ++ (b ++ (d ++ l))) := fun a b d l => by
    rw [StableHlo.seq_append, StableHlo.seq_append, StableHlo.seq_append]
    simp only [Pipeline.chain_cons, Pipeline.chain_nil, bind_pure_unit]
  exact (main_chain c).trans (e _ _ _ _)

end Cert.ReferenceIdeal.Run
end
-- ==== Proof.RefRun.lean ====
/- The reference's run: it ends with every buffer at its operations' results folded over the launch contents, the arguments unchanged; and what the ten layers leave. -/
module

public import proofs.«01_k».proof.Proof.RefOps

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo
open Idealize.SL.Sem

variable {F : FTy → Type} [FloatOps F]

/-! ## What each part touches, and allocates -/

/-- Every buffer of the program is a tensor value the TensorCore names. -/
theorem mem_tcRefs (b : DevRef τ sig) : b ∈ tcRefs τ sig := by
  obtain ⟨tb, i, h⟩ := b
  match tb, i, h with
  | .hbm, i, h => exact devRef_mem_tcRefs (τ := τ) (sig := sig) ⟨.hbm, i, rfl⟩
  | .host, i, _ => exact i.elim0
  | .shared, i, _ => exact i.elim0
  | .local .tc .vmem, i, _ => exact i.elim0
  | .local .tc .smem, i, _ => exact i.elim0
  | .local .scScalar _, i, _ => exact i.elim0
  | .local .scVector _, i, _ => exact i.elim0

theorem ops_sub : (ops : List (HloOp τ sig (Elt F))).Forall fun op => op.bufs ⊆ tcRefs τ sig :=
  List.forall_iff_forall_mem.mpr fun _ _ b _ => mem_tcRefs b

/-- What holds of all of two lists holds of all of their concatenation. -/
theorem forall_append {α : Type _} {p : α → Prop} {l k : List α} (hl : l.Forall p) (hk : k.Forall p) : (l ++ k).Forall p :=
  List.forall_iff_forall_mem.mpr fun x hx => (List.mem_append.mp hx).elim (List.forall_iff_forall_mem.mp hl x) (List.forall_iff_forall_mem.mp hk x)

theorem seed_fresh : (seedOps : List (HloOp τ sig (Elt F))).Forall fun op => op.fresh = ∅ := forall_fresh_of_map rfl
theorem rand_fresh : (randOps : List (HloOp τ sig (Elt F))).Forall fun op => op.fresh = ∅ := forall_fresh_of_map rfl
theorem scale_fresh : (scaleOps : List (HloOp τ sig (Elt F))).Forall fun op => op.fresh = ∅ := forall_fresh_of_map rfl
theorem layers_fresh : (layers : List (HloOp τ sig (Elt F))).Forall fun op => op.fresh = ∅ := forall_fresh_of_map rfl

theorem ops_fresh : (ops : List (HloOp τ sig (Elt F))).Forall fun op => op.fresh = ∅ :=
  forall_append seed_fresh (forall_append rand_fresh (forall_append scale_fresh layers_fresh))

/-! ## What is kept -/

theorem after_append2 (l k : List (HloOp τ sig (Elt F))) (V : Valuation τ sig (Elt F)) : after (l ++ k) V = after k (after l V) := by
  induction l generalizing V with
  | nil => rfl
  | cons op l ih => simp only [List.cons_append, after_cons, ih]

/-- What the buffers hold once the opening has run: the random matrix is made and the features are scaled. -/
abbrev opened (V : Valuation τ sig (Elt F)) : Valuation τ sig (Elt F) := after scaleOps (after randOps (after seedOps V))

theorem after_ops (V : Valuation τ sig (Elt F)) : after ops V = after layers (opened V) := by
  unfold ops; rw [after_append2, after_append2, after_append2]

/-- The opening keeps a reference it does not write. -/
theorem opened_keeps (V : Valuation τ sig (Elt F)) {r : Ref sig .tc} (h1 : r ∉ seedW) (h2 : r ∉ randW) (h3 : r ∉ scaleW) :
    opened V (Proc.devRef .tc r) = V (Proc.devRef .tc r) := by
  unfold opened
  rw [after_of_writes_sub scaleOps _ (forall_writes_sub_of_map scale_writes) h3, after_of_writes_sub randOps _ (forall_writes_sub_of_map rand_writes) h2,
    after_of_writes_sub seedOps _ (forall_writes_sub_of_map seed_writes) h1]

/-- The whole keeps a reference it does not write. -/
theorem ops_keeps (V : Valuation τ sig (Elt F)) {r : Ref sig .tc} (h1 : r ∉ seedW) (h2 : r ∉ randW) (h3 : r ∉ scaleW) (h4 : r ∉ layersW) :
    after ops V (Proc.devRef .tc r) = V (Proc.devRef .tc r) := by
  rw [after_ops, after_of_writes_sub layers _ (forall_writes_sub_of_map layers_writes) h4, opened_keeps V h1 h2 h3]

/-! ## The run -/

theorem no_scoped_refs : (Finset.univ.filter fun b : Ref sig .tc => b.isScoped) = ∅ := by decide +kernel

/-- The program has no semaphore. -/
theorem no_sems (s : SemLoc sig) : False := by
  cases s with
  | reg s => exact s.elim0
  | dma s => exact s.elim0

variable (m : (ℓ : Loc nD τ sig) → Buf (Elt F) ℓ) (g : Dev nD → PrngReg)

/-- Every execution ends, each buffer at the operations' results folded over the launch contents, the arguments unchanged and no semaphore up. -/
theorem run_ends : θ_run defs (onTc (τ := τ) main) ⟨m, fun _ => 0, g⟩ (fun r =>
    ((∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0)
      ∧ ∀ (c : Dev nD) (b : Ref sig .tc), r.2.mem ((c.tc : Thread nD τ).loc b) = after ops (launchContents m c) (Proc.devRef .tc b)) := by
  have h := run_seq no_scoped_refs (Finset.filter_eq_empty_iff.mpr fun s _ => (no_sems s).elim) defs main (fun _ => ops) main_seq
    (fun _ => ops_sub) m g (fun _ op hop => List.forall_iff_forall_mem.mp ops_fresh op hop)
  refine (θ_run defs (onTc (τ := τ) main) ⟨m, fun _ => 0, g⟩).mono (fun r hr => ⟨⟨fun c => ⟨?_, ?_, ?_⟩, ?_⟩, hr⟩) h
  · exact (hr c main_arg0).trans (ops_keeps _ (by decide +kernel) (by decide +kernel) (by decide +kernel) (by decide +kernel))
  · exact (hr c main_arg1).trans (ops_keeps _ (by decide +kernel) (by decide +kernel) (by decide +kernel) (by decide +kernel))
  · exact (hr c main_arg2).trans (ops_keeps _ (by decide +kernel) (by decide +kernel) (by decide +kernel) (by decide +kernel))
  · funext s; exact (no_sems s.2).elim

end Cert.ReferenceIdeal.Run
end
-- ==== Proof.RefLayers.lean ====
/- What the reference's ten layers leave: the pair of matrices after ten steps. -/
module

public import proofs.«01_k».proof.Proof.RefRun

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo
open Idealize.SL.Sem

variable {F : FTy → Type} [FloatOps F]

/-! ## The layers -/

/-- One layer on the pair of matrices: with `A`, `B` the square matrices and `C` the scaled features, the pair `(P, M)` becomes `(A P + B M + C, B P + A M)`. -/
def step (A B : (⟨S10000x10000, .f32⟩ : BufTy).Contents (Elt F)) (C : TX.Contents (Elt F)) (x : TX.Contents (Elt F) × TX.Contents (Elt F)) :
    TX.Contents (Elt F) × TX.Contents (Elt F) :=
  (addf (addf (mm A x.1) (mm B x.2)) C, addf (mm B x.1) (mm A x.2))

/-- What the buffers hold at a tensor value. -/
def rd {T : BufTy} (V : Valuation τ sig (Elt F)) (t : TRef sig T) : T.Contents (Elt F) := t.ofBuf (V (Proc.devRef .tc t.ref))

/-- An operation on two values leaves its function's value at its result, -/
theorem rd_result {Ta Tb T : BufTy} (V : Valuation τ sig (Elt F)) (a : TRef sig Ta) (b : TRef sig Tb) (y : TRef sig T)
    (f : Ta.Contents (Elt F) → Tb.Contents (Elt F) → T.Contents (Elt F)) :
    rd ((TRef.binary a b y f).result V) y = f (rd V a) (rd V b) := by
  unfold rd
  rw [binary_result, TRef.ofBuf_toBuf]

/-- and every other value as it was. -/
theorem rd_result_ne {Ta Tb T T' : BufTy} (V : Valuation τ sig (Elt F)) (a : TRef sig Ta) (b : TRef sig Tb) (y : TRef sig T) (t : TRef sig T')
    (f : Ta.Contents (Elt F) → Tb.Contents (Elt F) → T.Contents (Elt F)) (h : t.ref ≠ y.ref) :
    rd ((TRef.binary a b y f).result V) t = rd V t := by
  unfold rd
  rw [binary_result_ne _ _ _ _ _ _ _ _ h]

/-- The two square matrices' tensor values. -/
abbrev tA : TRef sig ⟨S10000x10000, .f32⟩ := .of main_arg0
abbrev tB : TRef sig ⟨S10000x10000, .f32⟩ := .of main_arg1

/-- The square matrices, the scaled features and the pair at `p`, `m` are as named. -/
structure At (V : Valuation τ sig (Elt F)) (A B : (⟨S10000x10000, .f32⟩ : BufTy).Contents (Elt F)) (C : TX.Contents (Elt F))
    (p m : TRef sig TX) (x : TX.Contents (Elt F) × TX.Contents (Elt F)) : Prop where
  a : rd V (.of main_arg0 : TRef sig ⟨S10000x10000, .f32⟩) = A
  b : rd V (.of main_arg1 : TRef sig ⟨S10000x10000, .f32⟩) = B
  c : rd V (.of main_v9 : TRef sig TX) = C
  p : rd V p = x.1
  m : rd V m = x.2

/-- A layer whose references are all distinct steps the pair. -/
theorem layer_at {V : Valuation τ sig (Elt F)} {A B : (⟨S10000x10000, .f32⟩ : BufTy).Contents (Elt F)} {C : TX.Contents (Elt F)}
    {p m d1 d2 s np d3 d4 nm : TRef sig TX} {x : TX.Contents (Elt F) × TX.Contents (Elt F)} (h : At V A B C p m x)
    (hn : [main_arg0, main_arg1, main_v9, m.ref, d1.ref, d2.ref, s.ref, np.ref, d3.ref, d4.ref, nm.ref].Nodup)
    (hp : p.ref ∉ [main_arg0, main_arg1, main_v9, m.ref, d1.ref, d2.ref, s.ref, np.ref, d3.ref, d4.ref, nm.ref]) :
    At (after (layer p m d1 d2 s np d3 d4 nm) V) A B C np nm (step A B C x) := by
  obtain ⟨ha, hb, hc, hP, hM⟩ := h
  simp only [List.nodup_cons, List.mem_cons, List.not_mem_nil, or_false, not_or] at hn hp
  obtain ⟨⟨ha1, hav, ham, had1, had2, has, hanp, had3, had4, hanm⟩, ⟨hbv, hbm, hbd1, hbd2, hbs, hbnp, hbd3, hbd4, hbnm⟩,
    ⟨hvm, hvd1, hvd2, hvs, hvnp, hvd3, hvd4, hvnm⟩, ⟨hmd1, hmd2, hms, hmnp, hmd3, hmd4, hmnm⟩, ⟨hd12, hd1s, hd1np, hd13, hd14, hd1nm⟩,
    ⟨hd2s, hd2np, hd23, hd24, hd2nm⟩, ⟨hsnp, hs3, hs4, hsnm⟩, ⟨hnp3, hnp4, hnpnm⟩, ⟨h34, h3nm⟩, h4nm, -⟩ := hn
  obtain ⟨hpa, hpb, hpv, hpm, hpd1, hpd2, hps, hpnp, hpd3, hpd4, hpnm⟩ := hp
  constructor <;> simp only [layer, after_cons, after_nil]
  · rw [rd_result_ne _ _ _ _ _ _ hanm, rd_result_ne _ _ _ _ _ _ had4, rd_result_ne _ _ _ _ _ _ had3, rd_result_ne _ _ _ _ _ _ hanp,
      rd_result_ne _ _ _ _ _ _ has, rd_result_ne _ _ _ _ _ _ had2, rd_result_ne _ _ _ _ _ _ had1, ha]
  · rw [rd_result_ne _ _ _ _ _ _ hbnm, rd_result_ne _ _ _ _ _ _ hbd4, rd_result_ne _ _ _ _ _ _ hbd3, rd_result_ne _ _ _ _ _ _ hbnp,
      rd_result_ne _ _ _ _ _ _ hbs, rd_result_ne _ _ _ _ _ _ hbd2, rd_result_ne _ _ _ _ _ _ hbd1, hb]
  · rw [rd_result_ne _ _ _ _ _ _ hvnm, rd_result_ne _ _ _ _ _ _ hvd4, rd_result_ne _ _ _ _ _ _ hvd3, rd_result_ne _ _ _ _ _ _ hvnp,
      rd_result_ne _ _ _ _ _ _ hvs, rd_result_ne _ _ _ _ _ _ hvd2, rd_result_ne _ _ _ _ _ _ hvd1, hc]
  · rw [rd_result_ne _ _ _ _ _ _ hnpnm, rd_result_ne _ _ _ _ _ _ hnp4, rd_result_ne _ _ _ _ _ _ hnp3, rd_result,
      rd_result, rd_result_ne _ _ _ _ _ _ hd12, rd_result, rd_result, rd_result_ne _ _ _ _ _ _ hbd1, rd_result_ne _ _ _ _ _ _ hmd1,
      rd_result_ne _ _ _ _ _ _ hvs, rd_result_ne _ _ _ _ _ _ hvd2, rd_result_ne _ _ _ _ _ _ hvd1, ha, hb, hc, hP, hM]
    rfl
  · rw [rd_result, rd_result, rd_result_ne _ _ _ _ _ _ h34, rd_result]
    simp only [rd_result_ne _ _ _ _ tA _ had3, rd_result_ne _ _ _ _ _ _ hmd3,
      rd_result_ne _ _ _ _ tB _ hbnp, rd_result_ne _ _ _ _ tB _ hbs, rd_result_ne _ _ _ _ tB _ hbd2, rd_result_ne _ _ _ _ tB _ hbd1,
      rd_result_ne _ _ _ _ _ _ hpnp, rd_result_ne _ _ _ _ _ _ hps, rd_result_ne _ _ _ _ _ _ hpd2, rd_result_ne _ _ _ _ _ _ hpd1,
      rd_result_ne _ _ _ _ tA _ hanp, rd_result_ne _ _ _ _ tA _ has, rd_result_ne _ _ _ _ tA _ had2, rd_result_ne _ _ _ _ tA _ had1,
      rd_result_ne _ _ _ _ _ _ hmnp, rd_result_ne _ _ _ _ _ _ hms, rd_result_ne _ _ _ _ _ _ hmd2, rd_result_ne _ _ _ _ _ _ hmd1, ha, hb, hP, hM]
    rfl

/-- The pair after `k` layers. -/
def pair (A B : (⟨S10000x10000, .f32⟩ : BufTy).Contents (Elt F)) (C : TX.Contents (Elt F)) (x : TX.Contents (Elt F) × TX.Contents (Elt F)) :
    ℕ → TX.Contents (Elt F) × TX.Contents (Elt F)
  | 0 => x
  | k + 1 => step A B C (pair A B C x k)

/-- The ten layers leave the pair after ten steps. -/
theorem layers_at {V : Valuation τ sig (Elt F)} {A B : (⟨S10000x10000, .f32⟩ : BufTy).Contents (Elt F)} {C : TX.Contents (Elt F)}
    {x : TX.Contents (Elt F) × TX.Contents (Elt F)} (h : At V A B C (.of main_arg2) (.of main_v7) x) :
    At (after layers V) A B C (.of main_v76) (.of main_v79) (pair A B C x 10) := by
  unfold layers
  iterate 9 rw [after_append2]
  iterate 10 refine layer_at ?_ (by decide +kernel) (by decide +kernel)
  exact h

end Cert.ReferenceIdeal.Run
end
-- ==== Proof.IdealStates.lean ====
/- The kernel's states are the reference's pairs of matrices, layer by layer, at the ideal values. -/
module

public import proofs.«01_k».proof.Proof.IdealStep
public import proofs.«01_k».proof.Proof.DiffArrays
public import proofs.«01_k».proof.Proof.RefLayers
public import Idealize.ShloMosaic.Lib.StackMember

@[expose] public section

set_option maxRecDepth 16384

noncomputable section

namespace Cert.KernelIdeal.Diff

open Cert.KernelIdeal Cert.KernelIdeal.Gen
open Idealize.ShloMosaic Idealize.ShloMosaic.TcCoe Idealize.ShloMosaic.ValueIdx
open Cert.ReferenceIdeal.Run (mm step pair)
open scoped BigOperators

/-- The reference's product at an index. -/
theorem mm_apply (A : S10000x10000.Idx → EReal) (P : S10000x128.Idx → EReal) (n : Fin 10000) (d : Fin 128) :
    (mm (F := Ideal) A P : S10000x128.Idx → EReal) (ix2 n d) = ∑ k : Fin 10000, A (ix2 n k) * P (ix2 k d) :=
  StackMember.dotGeneral_plain_apply (m := 10000) (n := 128) (k := 10000) (φ₁ := .f32) (φ₂ := .f32) none A P n d

variable {x : Vec Ideal S20x1024x10000 .fp8e4m3} {A B : S10000x10000.Idx → EReal} {T : Vec Ideal S256x10240 .bf16} {C : S10000x128.Idx → EReal}
  {TX : Vec Ideal S128x10240 .f32} {p : (S10000x128.Idx → EReal) × (S10000x128.Idx → EReal)}

/-- The first matrix's entry after a step is the reference's layer's. -/
theorem pay5_layer (hx : Scaled x A B) (hT : Holds T p.1 p.2) (hC : ∀ (d : Fin 128) (n : Fin 10000), TX (ix2 d (colN n)) = C (ix2 n d))
    (i : ℕ) (hi : i < 20) (q : Fin 512) (n : Fin 10000) (hn : n.val = 512 * i + q.val) (d : Fin 128) :
    k1_pay5 (blkA x i hi) (srcL T) (txL i hi TX) (ix2 d q) = ((step (F := Ideal) A B C p).1 : S10000x128.Idx → EReal) (ix2 n d) := by
  rw [pay5_step hx hT hC i hi q n hn d, ← mm_apply, ← mm_apply]
  rfl

/-- The second matrix's likewise. -/
theorem pay6_layer (hx : Scaled x A B) (hT : Holds T p.1 p.2)
    (i : ℕ) (hi : i < 20) (q : Fin 512) (n : Fin 10000) (hn : n.val = 512 * i + q.val) (d : Fin 128) :
    k1_pay6 (blkA x i hi) (srcL T) (ix2 d q) = ((step (F := Ideal) A B C p).2 : S10000x128.Idx → EReal) (ix2 n d) := by
  rw [pay6_step hx hT i hi q n hn d, ← mm_apply, ← mm_apply]
  rfl

/-- A column's place within its block of 512. -/
abbrev plc (n : Fin 10000) : Fin 512 := ⟨n.val % 512, Nat.mod_lt _ (by decide)⟩

theorem colIdx_at (r : Fin 256) (n : Fin 10000) : colIdx (ix2 r (colN n)) = ix2 r (plc n) := funext fun a => match a with
  | ⟨0, _⟩ => rfl
  | ⟨1, _⟩ => rfl

theorem blk_add (n : Fin 10000) : n.val = 512 * (n.val / 512) + (plc n).val := by
  show n.val = 512 * (n.val / 512) + n.val % 512
  omega

/-- A step of the kernel's takes a state that holds a pair to one that holds the pair a layer on. -/
theorem next_holds (hx : Scaled x A B) (hT : Holds T p.1 p.2) (hC : ∀ (d : Fin 128) (n : Fin 10000), TX (ix2 d (colN n)) = C (ix2 n d)) :
    Holds (nextT x TX T) (step (F := Ideal) A B C p).1 (step (F := Ideal) A B C p).2 := by
  intro d n
  constructor
  · show k1_pay9 (blkA x (n.val / 512) _) (srcL T) (txL (n.val / 512) _ TX) (colIdx (ix2 (rowP d) (colN n))) = _
    rw [colIdx_at, pay9_apply_P, pay5_layer hx hT hC _ _ _ n (blk_add n) d]
  · show k1_pay9 (blkA x (n.val / 512) _) (srcL T) (txL (n.val / 512) _ TX) (colIdx (ix2 (rowM d) (colN n))) = _
    rw [colIdx_at, pay9_apply_M, pay6_layer (C := C) hx hT _ _ _ n (blk_add n) d]

/-- After `s` steps the state holds the pair after `s` layers. -/
theorem states_hold (hx : Scaled x A B) (hT : Holds T p.1 p.2) (hC : ∀ (d : Fin 128) (n : Fin 10000), TX (ix2 d (colN n)) = C (ix2 n d)) :
    ∀ s : ℕ, Holds (ST x T TX s) (pair (F := Ideal) A B C p s).1 (pair (F := Ideal) A B C p s).2
  | 0 => hT
  | s + 1 => next_holds hx (states_hold hx hT hC s) hC

/-- The output element of a row and a column of a result. -/
abbrev outAt (n : Fin 10000) (d : Fin 128) : S20x128x512.Idx := ix3 (⟨n.val / 512, by omega⟩ : Fin 20) d (plc n)

theorem outIdx_at (n : Fin 10000) (d : Fin 128) : outIdx (outAt n d) = ix3 (0 : Fin 1) d (plc n) := funext fun a => match a with
  | ⟨0, _⟩ => rfl
  | ⟨1, _⟩ => rfl
  | ⟨2, _⟩ => rfl

variable (V : (c : Dev nD) → Valuation τ sig (Elt Ideal)) (c : Dev nD)

/-- The two output arrays hold the pair after ten layers. -/
theorem out_pair (hx : Scaled (V c main_v16) A B) (hT : Holds (V c main_v15) p.1 p.2)
    (hC : ∀ (d : Fin 128) (n : Fin 10000), (V c main_v11 : S128x10240.Idx → EReal) (ix2 d (colN n)) = C (ix2 n d)) (n : Fin 10000) (d : Fin 128) :
    outP V c (outAt n d) = (pair (F := Ideal) A B C p 10).1 (ix2 n d) ∧ outM V c (outAt n d) = (pair (F := Ideal) A B C p 10).2 (ix2 n d) := by
  have h9 := states_hold hx hT hC 9
  have hi : n.val / 512 < 20 := by omega
  constructor
  · show k1_pay7 (blkA (V c main_v16) (n.val / 512) hi) (srcL (STV V c 9)) (txL (n.val / 512) hi (V c main_v11)) (outIdx (outAt n d)) = _
    exact (congrArg _ (outIdx_at n d)).trans ((pay7_apply _ _ _ _ _).trans (pay5_layer hx h9 hC _ hi _ n (blk_add n) d))
  · show k1_pay8 (blkA (V c main_v16) (n.val / 512) hi) (srcL (STV V c 9)) (outIdx (outAt n d)) = _
    exact (congrArg _ (outIdx_at n d)).trans ((pay8_apply _ _ _ _).trans (pay6_layer (C := C) hx h9 _ hi _ n (blk_add n) d))

end Cert.KernelIdeal.Diff
end
-- ==== Proof.HostArrays.lean ====
/- The arrays the kernel's host code makes before and after the two regions, entry by entry at the ideal values. -/
module

public import proofs.«01_k».proof.Proof.Frame
public import proofs.«01_k».proof.Proof.IdealStates
public import Idealize.ShloMosaic.Lib.KernelVsHost

@[expose] public section

set_option maxRecDepth 16384

noncomputable section

namespace Cert.KernelIdeal.Host

open Cert.KernelIdeal Cert.KernelIdeal.Gen Cert.KernelIdeal.Diff
open Idealize.ShloMosaic Idealize.ShloMosaic.TcCoe Idealize.ShloMosaic.ValueIdx

/-- The host stretches after the random matrix is made, up to the first region. -/
abbrev prep (W : Valuation τ sig (Elt Ideal)) : Valuation τ sig (Elt Ideal) :=
  StableHlo.after hostOps0_5 (StableHlo.after hostOps0_4 (StableHlo.after hostOps0_3 (StableHlo.after hostOps0_2 W)))

/-- The first three operations after the random matrix, which scale the features. -/
abbrev scaleOps : List (HloOp τ sig (Elt Ideal)) := (hostOps0_2 (F := Ideal)).take 3

/-- The padded transpose of the scaled features. -/
theorem prep_v11 (W : Valuation τ sig (Elt Ideal)) (d : Fin 128) (n : Fin 10000) :
    (prep W main_v11 : S128x10240.Idx → EReal) (ix2 d (colN n)) = (StableHlo.after scaleOps W main_v9 : S10000x128.Idx → EReal) (ix2 n d) := by
  have e : (prep W main_v11 : S128x10240.Idx → EReal)
      = pad S128x10240 ![0, 0] ![0, 240] ![0, 0] (transpose S128x10000 [1, 0] (StableHlo.after scaleOps W main_v9 : S10000x128.Idx → EReal) transposes_S10000x128_S128x10000_1_0)
        (sitofp .f32 (constantI S_ 32 0#32) : FVec Ideal S_ .f32) pads_S128x10000_S128x10240_000_02400 h_S_ := by
    show (prep W (Proc.devRef .tc main_v11) : S128x10240.Idx → EReal) = _
    unfold scaleOps prep
    simp only [List.take]
    after_results
    rfl
  rw [e]
  refine (pad_apply_of_inside _ _ _ _ _ _ _ _ (ix2 d n) fun a => ?_).trans (transpose_apply _ _ _ _ (ix2 n d) fun b => ?_)
  · match a with
    | ⟨0, _⟩ => show d.val = 0 + d.val * (0 + 1); omega
    | ⟨1, _⟩ => show n.val = 0 + n.val * (0 + 1); omega
  · match b with
    | ⟨0, _⟩ => rfl
    | ⟨1, _⟩ => rfl

/-- The padded transpose of the features beside the random matrix: -/
theorem prep_v15 (W : Valuation τ sig (Elt Ideal)) :
    (prep W main_v15 : S256x10240.Idx → EReal)
      = pad S256x10240 ![0, 0] ![0, 240] ![0, 0] (transpose S256x10000 [1, 0]
          (concatenate S10000x256 1 [⟨S10000x128, (W main_arg2 : S10000x128.Idx → EReal)⟩, ⟨S10000x128, (W main_v7 : S10000x128.Idx → EReal)⟩] concatenates_S10000x128_S10000x128_S10000x256_d1)
          transposes_S10000x256_S256x10000_1_0)
        (sitofp .bf16 (constantI S_ 32 0#32) : FVec Ideal S_ .bf16) pads_S256x10000_S256x10240_000_02400 h_S_ := by
  show (prep W (Proc.devRef .tc main_v15) : S256x10240.Idx → EReal) = _
  unfold prep
  after_results
  rfl

/-- it is the state that holds the features and the random matrix. -/
theorem prep_holds (W : Valuation τ sig (Elt Ideal)) : Holds (prep W main_v15 : S256x10240.Idx → EReal) (W main_arg2 : S10000x128.Idx → EReal) (W main_v7 : S10000x128.Idx → EReal) := by
  intro d n
  have inside : ∀ r : Fin 256, (prep W main_v15 : S256x10240.Idx → EReal) (ix2 r (colN n))
      = concatenate S10000x256 1 [⟨S10000x128, (W main_arg2 : S10000x128.Idx → EReal)⟩, ⟨S10000x128, (W main_v7 : S10000x128.Idx → EReal)⟩]
          concatenates_S10000x128_S10000x128_S10000x256_d1 (ix2 n r) := fun r => by
    rw [prep_v15]
    refine (pad_apply_of_inside _ _ _ _ _ _ _ _ (ix2 r n) fun a => ?_).trans (transpose_apply _ _ _ _ (ix2 n r) fun b => ?_)
    · match a with
      | ⟨0, _⟩ => show r.val = 0 + r.val * (0 + 1); omega
      | ⟨1, _⟩ => show n.val = 0 + n.val * (0 + 1); omega
    · match b with
      | ⟨0, _⟩ => rfl
      | ⟨1, _⟩ => rfl
  constructor
  · rw [inside]
    exact concatenate_pair_apply_left (t := S10000x256) (s₁ := S10000x128) (s₂ := S10000x128) 1 _ _ concatenates_S10000x128_S10000x128_S10000x256_d1 _ rfl (ix2 n d) fun b => match b with
      | ⟨0, _⟩ => rfl
      | ⟨1, _⟩ => rfl
  · rw [inside]
    exact concatenate_pair_apply_right (t := S10000x256) (s₁ := S10000x128) (s₂ := S10000x128) 1 _ _ concatenates_S10000x128_S10000x128_S10000x256_d1 _ rfl rfl (ix2 n d)
      (fun b hb => match b, hb with
        | ⟨0, _⟩, _ => rfl
        | ⟨1, _⟩, h => absurd rfl h) (show d.val + 128 = 128 + d.val by omega)

/-- The host code's last stretch, of an array laid out in blocks. -/
abbrev unblock (u : S20x128x512.Idx → EReal) : S10000x128.Idx → EReal :=
  extractStridedSlice S10000x128 ![0, 0] (shapeCast S10240x128 (transpose S20x512x128 [0, 2, 1] u transposes_S20x128x512_S20x512x128_0_2_1) shapeCasts_S20x512x128_S10240x128)
    slices_S10240x128_S10000x128_0_0

theorem unblock_apply (u : S20x128x512.Idx → EReal) (n : Fin 10000) (d : Fin 128) : unblock u (ix2 n d) = u (outAt n d) := by
  refine (extractStridedSlice_apply _ _ _ _ (ix2 (colN n) d) fun a => ?_).trans
    ((shapeCast_apply _ _ _ (ix3 (⟨n.val / 512, by omega⟩ : Fin 20) (⟨n.val % 512, Nat.mod_lt _ (by decide)⟩ : Fin 512) d) ?_).trans (transpose_apply _ _ _ _ (outAt n d) fun b => ?_))
  · match a with
    | ⟨0, _⟩ => show n.val = 0 + n.val; omega
    | ⟨1, _⟩ => show d.val = 0 + d.val; omega
  · have h3 : (S20x512x128.rowMajor (ix3 (⟨n.val / 512, by omega⟩ : Fin 20) (⟨n.val % 512, Nat.mod_lt _ (by decide)⟩ : Fin 512) d)).val
        = (n.val / 512 * 512 + n.val % 512) * 128 + d.val := Shape.rowMajor_val_three _
    have h2 : (S10240x128.rowMajor (ix2 (colN n) d)).val = n.val * 128 + d.val := Shape.rowMajor_val_two _
    rw [h3, h2]
    omega
  · match b with
    | ⟨0, _⟩ => rfl
    | ⟨1, _⟩ => rfl
    | ⟨2, _⟩ => rfl

/-- The two results, from the two output arrays. -/
theorem tail_v20 (W : Valuation τ sig (Elt Ideal)) : (StableHlo.after hostOps2 W main_v20 : S10000x128.Idx → EReal) = unblock (W main_v17_0) := by
  show (StableHlo.after hostOps2 W (Proc.devRef .tc main_v20) : S10000x128.Idx → EReal) = _
  after_results
  rfl

theorem tail_v23 (W : Valuation τ sig (Elt Ideal)) : (StableHlo.after hostOps2 W main_v23 : S10000x128.Idx → EReal) = unblock (W main_v17_1) := by
  show (StableHlo.after hostOps2 W (Proc.devRef .tc main_v23) : S10000x128.Idx → EReal) = _
  after_results
  rfl

end Cert.KernelIdeal.Host
end
-- ==== Proof.Lockstep.lean ====
/- Two programs that run the same host operations on tensor values numbered alike hold the same arrays: a relation between the two programs' buffers that
   every pair of equal operations carries on. -/
module

public import Idealize.ShloMosaic.Lib.StableHlo.Run

@[expose] public section

noncomputable section

namespace Cert.Lockstep

open Idealize.ShloMosaic Idealize.ShloMosaic.StableHlo

variable {τ τ' : Topo} {sig sig' : RefSig} {Val : EltTy → Type}

/-- The tensor values numbered below `n` hold the same arrays in both programs. -/
def Agree (n : ℕ) (V : Valuation τ sig Val) (V' : Valuation τ' sig' Val) : Prop :=
  ∀ (r : Ref sig .tc) (r' : Ref sig' .tc), r.space = .hbm → r'.space = .hbm → r.idx.val = r'.idx.val → r.idx.val < n →
    HEq (V (Proc.devRef .tc r)) (V' (Proc.devRef .tc r'))

/-- The two lists carry agreement below `n` to agreement below `N`. -/
def Lock (n N : ℕ) (ops : List (HloOp τ sig Val)) (ops' : List (HloOp τ' sig' Val)) : Prop :=
  ∀ V V', Agree n V V' → Agree N (after ops V) (after ops' V')

/-- Two operations carry agreement one number on. -/
def Step (n : ℕ) (op : HloOp τ sig Val) (op' : HloOp τ' sig' Val) : Prop :=
  ∀ V V', Agree n V V' → Agree (n + 1) (op.result V) (op'.result V')

theorem Lock.nil (n : ℕ) : Lock n n ([] : List (HloOp τ sig Val)) ([] : List (HloOp τ' sig' Val)) := fun _ _ h => h

theorem Lock.cons {n N : ℕ} {op : HloOp τ sig Val} {op' : HloOp τ' sig' Val} {ops : List (HloOp τ sig Val)} {ops' : List (HloOp τ' sig' Val)}
    (hs : Step n op op') (h : Lock (n + 1) N ops ops') : Lock n N (op :: ops) (op' :: ops') :=
  fun V V' hA => h _ _ (hs V V' hA)

/-- Two lists one after the other. -/
theorem after_cat (l k : List (HloOp τ sig Val)) (V : Valuation τ sig Val) : after (l ++ k) V = after k (after l V) := by
  induction l generalizing V with
  | nil => rfl
  | cons op l ih => exact ih (op.result V)

/-- Lists run in step if their first `k` operations do and the rest do. -/
theorem Lock.split {n N : ℕ} {ops : List (HloOp τ sig Val)} {ops' : List (HloOp τ' sig' Val)} (k m : ℕ)
    (h : Lock n m (ops.take k) (ops'.take k)) (h' : Lock m N (ops.drop k) (ops'.drop k)) : Lock n N ops ops' := by
  intro V V' hA
  have h2 := h' _ _ (h V V' hA)
  rwa [← after_cat, ← after_cat, List.take_append_drop, List.take_append_drop] at h2

/-- A reference is its space and its number. -/
theorem ref_eq {r y : Ref sig .tc} (hr : r.space = .hbm) (hy : y.space = .hbm) (h : r.idx.val = y.idx.val) : r = y := by
  obtain ⟨s, i, p⟩ := r
  obtain ⟨s', i', p'⟩ := y
  obtain rfl : s = .hbm := hr
  obtain rfl : s' = .hbm := hy
  obtain rfl : i = i' := Fin.ext h
  rfl

/-- Two operations that write the values numbered `n`, equal if the values below agree, carry agreement on. -/
theorem step_of {n : ℕ} {op : HloOp τ sig Val} {op' : HloOp τ' sig' Val} {y : Ref sig .tc} {y' : Ref sig' .tc}
    (hw : op.writes = {Proc.devRef .tc y}) (hw' : op'.writes = {Proc.devRef .tc y'}) (sy : y.space = .hbm) (sy' : y'.space = .hbm)
    (iy : y.idx.val = n) (iy' : y'.idx.val = n)
    (h : ∀ V V', Agree n V V' → HEq (op.result V (Proc.devRef .tc y)) (op'.result V' (Proc.devRef .tc y'))) : Step n op op' := by
  intro V V' hA r r' sr sr' hrr hlt
  by_cases hn : r.idx.val = n
  · obtain rfl := ref_eq sr sy (hn.trans iy.symm)
    obtain rfl := ref_eq sr' sy' ((hrr.symm.trans hn).trans iy'.symm)
    exact h V V' hA
  · have hne : r ≠ y := fun e => hn (by rw [e]; exact iy)
    have hne' : r' ≠ y' := fun e => hn (by rw [hrr, e]; exact iy')
    rw [op.result_of_not_mem V (by rw [hw, Finset.mem_singleton]; exact devRef_ne_of_ne hne),
      op'.result_of_not_mem V' (by rw [hw', Finset.mem_singleton]; exact devRef_ne_of_ne hne')]
    exact hA r r' sr sr' hrr (by omega)

theorem heq_app {α α' β β' : Type} {f : α → β} {f' : α' → β'} {a : α} {a' : α'} (ha : α = α') (hb : β = β') (hf : HEq f f') (h : HEq a a') : HEq (f a) (f' a') := by
  subst ha; subst hb; cases hf; cases h; rfl

theorem heq_app2 {α α' β β' γ γ' : Type} {f : α → β → γ} {f' : α' → β' → γ'} {a : α} {a' : α'} {b : β} {b' : β'} (ha : α = α') (hb : β = β') (hc : γ = γ')
    (hf : HEq f f') (h : HEq a a') (k : HEq b b') : HEq (f a b) (f' a' b') := by
  subst ha; subst hb; subst hc; cases hf; cases h; cases k; rfl

variable {x a b y : Ref sig .tc} {x' a' b' y' : Ref sig' .tc} {n : ℕ}

theorem step_nullary {v : y.ty.Contents Val} {v' : y'.ty.Contents Val} {hy hy'} (sy : y.space = .hbm) (sy' : y'.space = .hbm)
    (iy : y.idx.val = n) (iy' : y'.idx.val = n) (h : HEq v v') : Step n (nullary (τ := τ) y v hy) (nullary (τ := τ') y' v' hy') :=
  step_of rfl rfl sy sy' iy iy' fun V V' _ => by rw [nullary_result, nullary_result]; exact h

theorem step_unary {f : x.ty.Contents Val → y.ty.Contents Val} {f' : x'.ty.Contents Val → y'.ty.Contents Val} {hx hy hx' hy'}
    (sx : x.space = .hbm) (sx' : x'.space = .hbm) (sy : y.space = .hbm) (sy' : y'.space = .hbm)
    (ix : x.idx.val = x'.idx.val) (lx : x.idx.val < n) (iy : y.idx.val = n) (iy' : y'.idx.val = n)
    (tx : x.ty = x'.ty) (ty : y.ty = y'.ty) (h : HEq f f') : Step n (unary (τ := τ) x y f hx hy) (unary (τ := τ') x' y' f' hx' hy') :=
  step_of rfl rfl sy sy' iy iy' fun V V' hA => by
    rw [unary_result, unary_result]
    exact heq_app (congrArg _ tx) (congrArg _ ty) h (hA x x' sx sx' ix lx)

theorem step_binary {f : a.ty.Contents Val → b.ty.Contents Val → y.ty.Contents Val} {f' : a'.ty.Contents Val → b'.ty.Contents Val → y'.ty.Contents Val}
    {ha hb hy ha' hb' hy'} (sa : a.space = .hbm) (sa' : a'.space = .hbm) (sb : b.space = .hbm) (sb' : b'.space = .hbm) (sy : y.space = .hbm) (sy' : y'.space = .hbm)
    (ia : a.idx.val = a'.idx.val) (la : a.idx.val < n) (ib : b.idx.val = b'.idx.val) (lb : b.idx.val < n) (iy : y.idx.val = n) (iy' : y'.idx.val = n)
    (ta : a.ty = a'.ty) (tb : b.ty = b'.ty) (ty : y.ty = y'.ty) (h : HEq f f') :
    Step n (binary (τ := τ) a b y f ha hb hy) (binary (τ := τ') a' b' y' f' ha' hb' hy') :=
  step_of rfl rfl sy sy' iy iy' fun V V' hA => by
    rw [binary_result, binary_result]
    exact heq_app2 (congrArg _ ta) (congrArg _ tb) (congrArg _ ty) h (hA a a' sa sa' ia la) (hA b b' sb sb' ib lb)

theorem heq_reshape {Tx Ty Tx' Ty' : BufTy} {he : Tx.elt = Ty.elt} {hn : Tx.shape.ShapeCasts Ty.shape} {he' : Tx'.elt = Ty'.elt} {hn' : Tx'.shape.ShapeCasts Ty'.shape}
    (tx : Tx = Tx') (ty : Ty = Ty') {u : Tx.Contents Val} {u' : Tx'.Contents Val} (h : HEq u u') :
    HEq (fun i => he ▸ shapeCast Ty.shape u hn i : Ty.Contents Val) (fun i => he' ▸ shapeCast Ty'.shape u' hn' i : Ty'.Contents Val) := by
  subst tx; subst ty; cases h; rfl

theorem step_reshape {he hn hx hy he' hn' hx' hy'} (sx : x.space = .hbm) (sx' : x'.space = .hbm) (sy : y.space = .hbm) (sy' : y'.space = .hbm)
    (ix : x.idx.val = x'.idx.val) (lx : x.idx.val < n) (iy : y.idx.val = n) (iy' : y'.idx.val = n) (tx : x.ty = x'.ty) (ty : y.ty = y'.ty) :
    Step n (reshape (τ := τ) (Val := Val) x y he hn hx hy) (reshape (τ := τ') x' y' he' hn' hx' hy') :=
  step_of rfl rfl sy sy' iy iy' fun V V' hA => by
    rw [reshape_result, reshape_result]
    exact heq_reshape tx ty (hA x x' sx sx' ix lx)

end Cert.Lockstep
end
-- ==== Proof.Opening.lean ====
/- The kernel's host code opens as the reference does: the random matrix and the scaled features are the same arrays in both, for any floats. -/
module

public import proofs.«01_k».proof.Proof.Lockstep
public import proofs.«01_k».proof.Proof.RefOps
public import proofs.«01_k».proof.Proof.Gen.KernelIdeal.Launch

@[expose] public section

set_option maxRecDepth 16384

noncomputable section

namespace Cert.Opening

open Idealize.ShloMosaic Idealize.ShloMosaic.StableHlo Cert.Lockstep

variable {F : FTy → Type} [FloatOps F]

attribute [local irreducible] Lock Step

set_option maxHeartbeats 4000000 in
/-- What seeds the random matrix runs in step. -/
theorem lock_seed : Lock 3 15 (Cert.KernelIdeal.Gen.hostOps0 : List (HloOp _ _ (Elt F))) Cert.ReferenceIdeal.Run.seedOps := by
  repeat first
    | exact Lock.nil _
    | refine Lock.cons ?_ ?_
      · first
        | (with_reducible refine step_unary ?_ ?_ ?_ ?_ ?_ ?_ ?_ ?_ ?_ ?_ ?_) <;> first | rfl | decide +kernel | exact HEq.rfl
        | (with_reducible refine step_binary ?_ ?_ ?_ ?_ ?_ ?_ ?_ ?_ ?_ ?_ ?_ ?_ ?_ ?_ ?_ ?_) <;> first | rfl | decide +kernel | exact HEq.rfl
        | (with_reducible refine step_nullary ?_ ?_ ?_ ?_ ?_) <;> first | rfl | decide +kernel | exact HEq.rfl
        | (with_reducible refine step_reshape ?_ ?_ ?_ ?_ ?_ ?_ ?_ ?_ ?_ ?_) <;> first | rfl | decide +kernel

set_option maxHeartbeats 40000000 in
/-- The scaled features are made in step, from agreement through the random matrix. -/
theorem lock_scale : Lock 277 280 ((Cert.KernelIdeal.Gen.hostOps0_2 : List (HloOp _ _ (Elt F))).take 3) Cert.ReferenceIdeal.Run.scaleOps := by
  repeat first
    | exact Lock.nil _
    | refine Lock.cons ?_ ?_
      · first
        | (with_reducible refine step_unary ?_ ?_ ?_ ?_ ?_ ?_ ?_ ?_ ?_ ?_ ?_) <;> first | rfl | decide +kernel | exact HEq.rfl
        | (with_reducible refine step_binary ?_ ?_ ?_ ?_ ?_ ?_ ?_ ?_ ?_ ?_ ?_ ?_ ?_ ?_ ?_ ?_) <;> first | rfl | decide +kernel | exact HEq.rfl
        | (with_reducible refine step_nullary ?_ ?_ ?_ ?_ ?_) <;> first | rfl | decide +kernel | exact HEq.rfl
        | (with_reducible refine step_reshape ?_ ?_ ?_ ?_ ?_ ?_ ?_ ?_ ?_ ?_) <;> first | rfl | decide +kernel

set_option maxHeartbeats 40000000 in
/-- The random matrix is made in step. -/
theorem lock_rand : Lock 15 277 (Cert.KernelIdeal.Gen.hostOps0_1 : List (HloOp _ _ (Elt F))) Cert.ReferenceIdeal.Run.randOps := by
  refine .split 30 45 ?_ (.split 30 75 ?_ (.split 30 105 ?_ (.split 30 135 ?_ (.split 30 165 ?_ (.split 30 195 ?_ (.split 30 225 ?_ (.split 30 255 ?_ ?_)))))))
  all_goals repeat first
    | exact Lock.nil _
    | refine Lock.cons ?_ ?_
      · first
        | (with_reducible refine step_unary ?_ ?_ ?_ ?_ ?_ ?_ ?_ ?_ ?_ ?_ ?_) <;> first | rfl | decide +kernel | exact HEq.rfl
        | (with_reducible refine step_binary ?_ ?_ ?_ ?_ ?_ ?_ ?_ ?_ ?_ ?_ ?_ ?_ ?_ ?_ ?_ ?_) <;> first | rfl | decide +kernel | exact HEq.rfl
        | (with_reducible refine step_nullary ?_ ?_ ?_ ?_ ?_) <;> first | rfl | decide +kernel | exact HEq.rfl
        | (with_reducible refine step_reshape ?_ ?_ ?_ ?_ ?_ ?_ ?_ ?_ ?_ ?_) <;> first | rfl | decide +kernel

end Cert.Opening
end
-- ==== Proof.Equation.lean ====
/- The equation: at the ideal values the kernel's two results are the reference's, from memories that agree on the arguments. -/
module

public import proofs.«01_k».proof.Proof.HostArrays
public import proofs.«01_k».proof.Proof.Opening
public import proofs.«01_k».proof.Proof.RefRun

@[expose] public section

set_option maxRecDepth 16384

noncomputable section

namespace Cert.Equation

open Idealize.ShloMosaic Idealize.ShloMosaic.ValueIdx
open Cert.Lockstep Cert.Opening
open Cert.KernelIdeal.Diff (Scaled Holds blkA out_pair outP outM outAt colN)
open Cert.KernelIdeal.Host (prep unblock unblock_apply tail_v20 tail_v23 prep_v11 prep_holds)
open Cert.ReferenceIdeal.Run (pair)

/-- Arrays read as extended reals: a square matrix, and a matrix of features. -/
abbrev Sq : Type := Cert.KernelIdeal.S10000x10000.Idx → EReal
abbrev Ft : Type := Cert.KernelIdeal.S10000x128.Idx → EReal

/-- What the first region leaves is the two matrices, interleaved by blocks of 512 rows and scaled by 1024. -/
theorem sel_scaled {V : Dev Cert.KernelIdeal.nD → Valuation Cert.KernelIdeal.τ Cert.KernelIdeal.sig (Elt Ideal)} {c : Dev Cert.KernelIdeal.nD}
    {x : Cert.KernelIdeal.Run.Q8 (F := Ideal)} (h : Cert.KernelIdeal.Quant.Sel V c x) :
    Scaled x (V c (Proc.devRef .tc Cert.KernelIdeal.main_arg0) : Sq) (V c (Proc.devRef .tc Cert.KernelIdeal.main_arg1) : Sq) := by
  intro i hi q n k hn
  have hq : ∀ a : EReal, Cert.KernelIdeal.Quant.qz (F := Ideal) a = a * ((1024 : ℝ) : EReal) := fun a =>
    congrArg (a * ·) Cert.KernelIdeal.Diff.scale_up
  constructor
  · refine (h _ (ix2 n k) ?_ ?_).trans ?_
    · show n.val = 512 * i + q.val % 512
      rw [hn, Nat.mod_eq_of_lt q.isLt]
    · rfl
    · rw [if_pos (show q.val < 512 from q.isLt)]
      exact hq _
  · refine (h _ (ix2 n k) ?_ ?_).trans ?_
    · show n.val = 512 * i + (512 + q.val) % 512
      omega
    · rfl
    · rw [if_neg (show ¬ 512 + q.val < 512 by omega)]
      exact hq _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's buffers once the random matrix is made. -/
abbrev made : Valuation Cert.KernelIdeal.τ Cert.KernelIdeal.sig (Elt Ideal) := Cert.KernelIdeal.Gen.V2 m c

/-- The reference's buffers at the launch. -/
abbrev launched : Valuation Cert.ReferenceIdeal.τ Cert.ReferenceIdeal.sig (Elt Ideal) := StableHlo.launchContents m' c

/-- The arguments and the two matrices the host code makes, as the kernel has them. -/
abbrev kA : Sq := m ((c.tc : Thread Cert.KernelIdeal.nD Cert.KernelIdeal.τ).loc Cert.KernelIdeal.main_arg0)
abbrev kB : Sq := m ((c.tc : Thread Cert.KernelIdeal.nD Cert.KernelIdeal.τ).loc Cert.KernelIdeal.main_arg1)
abbrev kX : Ft := m ((c.tc : Thread Cert.KernelIdeal.nD Cert.KernelIdeal.τ).loc Cert.KernelIdeal.main_arg2)
abbrev kM : Ft := made m c (Proc.devRef .tc Cert.KernelIdeal.main_v7)
abbrev kC : Ft := StableHlo.after Cert.KernelIdeal.Host.scaleOps (made m c) (Proc.devRef .tc Cert.KernelIdeal.main_v9)

/-- The features are still as launched once the random matrix is made. -/
theorem made_arg2 : (made m c (Proc.devRef .tc Cert.KernelIdeal.main_arg2) : Ft) = kX m c :=
  (Cert.KernelIdeal.Gen.V2_of m c _ (by decide)).trans (Cert.KernelIdeal.Gen.V1_of m c _ (by decide))

/-! ## The kernel's results -/

section kernel

variable (x : Cert.KernelIdeal.Run.Q8 (F := Ideal))

/-- The second region's entry contents: the first region's array, and the host's elsewhere. -/
theorem VQ_same : Cert.KernelIdeal.Run.VQ m x c (Proc.devRef .tc Cert.KernelIdeal.main_v16) = x := Function.update_self ..

theorem VQ_else (r : Ref Cert.KernelIdeal.sig .tc) (h : r ≠ Cert.KernelIdeal.main_v16) :
    Cert.KernelIdeal.Run.VQ m x c (Proc.devRef .tc r) = prep (made m c) (Proc.devRef .tc r) :=
  Function.update_of_ne (StableHlo.devRef_ne_of_ne h) ..

/-- The second region's arrays hold the pair after ten layers. -/
theorem kernel_out (hx : Cert.KernelIdeal.Run.sel m x c) (n : Fin 10000) (d : Fin 128) :
    outP (Cert.KernelIdeal.Run.VQ m x) c (outAt n d) = (pair (F := Ideal) (kA m c) (kB m c) (kC m c) (kX m c, kM m c) 10).1 (ix2 n d)
      ∧ outM (Cert.KernelIdeal.Run.VQ m x) c (outAt n d) = (pair (F := Ideal) (kA m c) (kB m c) (kC m c) (kX m c, kM m c) 10).2 (ix2 n d) := by
  refine out_pair (A := kA m c) (B := kB m c) (C := kC m c) (p := (kX m c, kM m c)) (Cert.KernelIdeal.Run.VQ m x) c ?_ ?_ ?_ n d
  · have h := sel_scaled hx
    rw [Cert.KernelIdeal.Run.V6_arg0, Cert.KernelIdeal.Run.V6_arg1] at h
    rw [VQ_same]
    exact h
  · have h := prep_holds (made m c)
    rw [made_arg2] at h
    rw [VQ_else m c x _ (by decide)]
    exact h
  · intro d n
    rw [VQ_else m c x _ (by decide)]
    exact prep_v11 (made m c) d n

/-- Its two results are the pair after ten layers. -/
theorem kernel_v20 (hx : Cert.KernelIdeal.Run.sel m x c) :
    (Cert.KernelIdeal.Run.VE m x c (Proc.devRef .tc Cert.KernelIdeal.main_v20) : Ft) = (pair (F := Ideal) (kA m c) (kB m c) (kC m c) (kX m c, kM m c) 10).1 := by
  refine (tail_v20 _).trans (funext fun j => ?_)
  obtain ⟨n, d, rfl⟩ : ∃ (n : Fin 10000) (d : Fin 128), j = ix2 n d := ⟨j 0, j 1, eq_ix2 j⟩
  rw [unblock_apply]
  refine Eq.trans (congrFun ?_ _) (kernel_out m c x hx n d).1
  exact (Pipeline.afterRegion_arr _ _ Cert.KernelIdeal.Gen.launch1.win.arr_inj 3).trans (Cert.KernelIdeal.Diff.arr3 _ c)

theorem kernel_v23 (hx : Cert.KernelIdeal.Run.sel m x c) :
    (Cert.KernelIdeal.Run.VE m x c (Proc.devRef .tc Cert.KernelIdeal.main_v23) : Ft) = (pair (F := Ideal) (kA m c) (kB m c) (kC m c) (kX m c, kM m c) 10).2 := by
  refine (tail_v23 _).trans (funext fun j => ?_)
  obtain ⟨n, d, rfl⟩ : ∃ (n : Fin 10000) (d : Fin 128), j = ix2 n d := ⟨j 0, j 1, eq_ix2 j⟩
  rw [unblock_apply]
  refine Eq.trans (congrFun ?_ _) (kernel_out m c x hx n d).2
  exact (Pipeline.afterRegion_arr _ _ Cert.KernelIdeal.Gen.launch1.win.arr_inj 4).trans (Cert.KernelIdeal.Diff.arr4 _ c)

end kernel

/-! ## The reference's -/

/-- The two memories hold the same arguments on a device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m' c}

/-- Then the tensor values numbered below three agree. -/
theorem agree_launch (h : Same m m' c) : Agree 3 (Cert.KernelIdeal.Gen.V0 m c) (launched m' c) := by
  intro r r' hr hr' hi hlt
  have key : ∀ (a : Ref Cert.KernelIdeal.sig .tc) (a' : Ref Cert.ReferenceIdeal.sig .tc), a.space = .hbm → a'.space = .hbm →
      r.idx.val = a.idx.val → r'.idx.val = a'.idx.val → HEq (Cert.KernelIdeal.Gen.V0 m c (Proc.devRef .tc a)) (launched m' c (Proc.devRef .tc a')) →
      HEq (Cert.KernelIdeal.Gen.V0 m c (Proc.devRef .tc r)) (launched m' c (Proc.devRef .tc r')) := by
    intro a a' ha ha' e e' hh
    obtain rfl := ref_eq hr ha e
    obtain rfl := ref_eq hr' ha' e'
    exact hh
  obtain h0 | h1 | h2 : r.idx.val = 0 ∨ r.idx.val = 1 ∨ r.idx.val = 2 := by omega
  · exact key Cert.KernelIdeal.main_arg0 Cert.ReferenceIdeal.main_arg0 rfl rfl h0 (hi.symm.trans h0) (heq_of_eq h.1.symm)
  · exact key Cert.KernelIdeal.main_arg1 Cert.ReferenceIdeal.main_arg1 rfl rfl h1 (hi.symm.trans h1) (heq_of_eq h.2.1.symm)
  · exact key Cert.KernelIdeal.main_arg2 Cert.ReferenceIdeal.main_arg2 rfl rfl h2 (hi.symm.trans h2) (heq_of_eq h.2.2.symm)

/-- The openings leave the tensor values numbered below 280 in agreement. -/
theorem agree_open (h : Same m m' c) : Agree 280 (StableHlo.after Cert.KernelIdeal.Host.scaleOps (made m c)) (Cert.ReferenceIdeal.Run.opened (launched m' c)) :=
  lock_scale _ _ (lock_rand _ _ (lock_seed _ _ (agree_launch h)))

/-- The reference's random matrix is the kernel's, -/
theorem same_rand (h : Same m m' c) : (Cert.ReferenceIdeal.Run.opened (launched m' c) (Proc.devRef .tc Cert.ReferenceIdeal.main_v7) : Ft) = kM m c := by
  refine (eq_of_heq (agree_open h Cert.KernelIdeal.main_v7 Cert.ReferenceIdeal.main_v7 rfl rfl rfl (by decide))).symm.trans ?_
  exact StableHlo.after_of_writes_sub (W := [Cert.KernelIdeal.main_cst_3, Cert.KernelIdeal.main_v8, Cert.KernelIdeal.main_v9]) Cert.KernelIdeal.Host.scaleOps _
    (StableHlo.forall_writes_sub_of_map rfl) (by decide)

/-- and so are its scaled features. -/
theorem same_scaled (h : Same m m' c) : (Cert.ReferenceIdeal.Run.opened (launched m' c) (Proc.devRef .tc Cert.ReferenceIdeal.main_v9) : Ft) = kC m c :=
  (eq_of_heq (agree_open h Cert.KernelIdeal.main_v9 Cert.ReferenceIdeal.main_v9 rfl rfl rfl (by decide))).symm

/-- The reference's results are the pair after ten layers. -/
theorem ref_ends (h : Same m m' c) :
    (StableHlo.after Cert.ReferenceIdeal.Run.ops (launched m' c) (Proc.devRef .tc Cert.ReferenceIdeal.main_v76) : Ft) = (pair (F := Ideal) (kA m c) (kB m c) (kC m c) (kX m c, kM m c) 10).1
      ∧ (StableHlo.after Cert.ReferenceIdeal.Run.ops (launched m' c) (Proc.devRef .tc Cert.ReferenceIdeal.main_v79) : Ft) = (pair (F := Ideal) (kA m c) (kB m c) (kC m c) (kX m c, kM m c) 10).2 := by
  have e0 : (Cert.ReferenceIdeal.Run.opened (launched m' c) (Proc.devRef .tc Cert.ReferenceIdeal.main_arg0) : Sq) = kA m c :=
    (Cert.ReferenceIdeal.Run.opened_keeps _ (by decide +kernel) (by decide +kernel) (by decide +kernel)).trans h.1
  have e1 : (Cert.ReferenceIdeal.Run.opened (launched m' c) (Proc.devRef .tc Cert.ReferenceIdeal.main_arg1) : Sq) = kB m c :=
    (Cert.ReferenceIdeal.Run.opened_keeps _ (by decide +kernel) (by decide +kernel) (by decide +kernel)).trans h.2.1
  have e2 : (Cert.ReferenceIdeal.Run.opened (launched m' c) (Proc.devRef .tc Cert.ReferenceIdeal.main_arg2) : Ft) = kX m c :=
    (Cert.ReferenceIdeal.Run.opened_keeps _ (by decide +kernel) (by decide +kernel) (by decide +kernel)).trans h.2.2
  have at0 : Cert.ReferenceIdeal.Run.At (F := Ideal) (Cert.ReferenceIdeal.Run.opened (launched m' c)) (kA m c) (kB m c) (kC m c)
      (.of Cert.ReferenceIdeal.main_arg2) (.of Cert.ReferenceIdeal.main_v7) (kX m c, kM m c) :=
    ⟨e0, e1, same_scaled h, e2, same_rand h⟩
  have at10 := Cert.ReferenceIdeal.Run.layers_at at0
  rw [Cert.ReferenceIdeal.Run.after_ops]
  exact ⟨at10.p, at10.m⟩

end Cert.Equation
end
-- ==== Proof.lean ====
/- The proof of the claims about the kernel (proofs.«01_k».proof.Defs): it runs and keeps its arguments, as printed and at the ideal values, the reference
   likewise, and the kernel's two results are the reference's at the ideal values. -/
module

public import proofs.«01_k».proof.Defs
public import proofs.«01_k».proof.Proof.Equation
public import proofs.«01_k».proof.Proof.AsPrinted.Frame

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel as printed runs, keeps its arguments and ends with every semaphore at zero. -/
theorem kernel_frame : Cert.quiescent_Kernel := fun m g _ => Cert.Kernel.Run.frame (F := Bits) m g

/-- So does the kernel at the ideal values, -/
theorem ideal_frame : Cert.quiescent_KernelIdeal := fun m g _ => Cert.KernelIdeal.Run.frame (F := Ideal) m g

/-- and the reference. -/
theorem reference_frame : Cert.quiescent_ReferenceIdeal := fun m g _ =>
  (θ_run (Cert.ReferenceIdeal.defs (F := Ideal)) _ _).mono (fun _ h => h.1) (Cert.ReferenceIdeal.Run.run_ends (F := Ideal) m g)

/-- The kernel's two results are the reference's: the pair of matrices after ten layers. -/
theorem equal_results : Cert.algebraic_KernelIdeal_ReferenceIdeal := by
  intro m g m' g' _ hs
  refine ⟨fun c => (Cert.ReferenceIdeal.Run.pair (F := Ideal) (Equation.kA m c) (Equation.kB m c) (Equation.kC m c) (Equation.kX m c, Equation.kM m c) 10).1,
    fun c => (Cert.ReferenceIdeal.Run.pair (F := Ideal) (Equation.kA m c) (Equation.kB m c) (Equation.kC m c) (Equation.kX m c, Equation.kM m c) 10).2, ?_, ?_⟩
  · refine (θ_run (Cert.KernelIdeal.defs (F := Ideal)) _ _).mono (fun r h c => ?_) (Cert.KernelIdeal.Run.run_ends (F := Ideal) m g)
    obtain ⟨x, hx, h20, h23⟩ := h.2 c
    exact ⟨h20.trans (Equation.kernel_v20 m c x hx), h23.trans (Equation.kernel_v23 m c x hx), h.1.1 c⟩
  · refine (θ_run (Cert.ReferenceIdeal.defs (F := Ideal)) _ _).mono (fun r h c => ?_) (Cert.ReferenceIdeal.Run.run_ends (F := Ideal) m' g')
    exact ⟨(h.2 c Cert.ReferenceIdeal.main_v76).trans (Equation.ref_ends (hs c)).1, (h.2 c Cert.ReferenceIdeal.main_v79).trans (Equation.ref_ends (hs c)).2, h.1.1 c⟩

theorem claim : Cert.Claim := ⟨Cert.Kernel.Gen.facts, Cert.KernelIdeal.Gen.facts, Cert.ReferenceIdeal.Gen.facts,
  kernel_frame, ideal_frame, reference_frame, trivial, equal_results⟩

end Cert.Proof
end
